-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_unbiased [hPre_finite_unbiased : Cert.Pre_finite_unbiased.Facts] (m : (ℓ : Loc Cert.KernelIdeal.nD Cert.KernelIdeal.τ Cert.KernelIdeal.sig) → Buf (Elt Ideal) ℓ) : Prop :=
  ∀ c : Dev Cert.KernelIdeal.nD,
    (Cert.Pre_finite_unbiased.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_unbiased [hPre_finite_unbiased : Cert.Pre_finite_unbiased.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_unbiased.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite_unbiased [hKernelIdeal : Cert.KernelIdeal.Facts] [hPre_finite_unbiased : Cert.Pre_finite_unbiased.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_unbiased m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite_unbiased [hReferenceIdeal : Cert.ReferenceIdeal.Facts] [hPre_finite_unbiased : Cert.Pre_finite_unbiased.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_unbiased m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "big" .f32 0x7149F2CA#32 ⊤

def algebraic_KernelIdeal_ReferenceIdeal_pre_finite_unbiased [hKernelIdeal : Cert.KernelIdeal.Facts] [hReferenceIdeal : Cert.ReferenceIdeal.Facts] [hPre_finite_unbiased : Cert.Pre_finite_unbiased.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_unbiased m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_unbiased : Cert.Pre_finite_unbiased.Facts),
    quiescent_Kernel (hKernel := hKernel)
    ∧ quiescent_KernelIdeal (hKernelIdeal := hKernelIdeal)
    ∧ quiescent_KernelIdeal_pre_finite_unbiased (hKernelIdeal := hKernelIdeal) (hPre_finite_unbiased := hPre_finite_unbiased)
    ∧ quiescent_ReferenceIdeal (hReferenceIdeal := hReferenceIdeal)
    ∧ quiescent_ReferenceIdeal_pre_finite_unbiased (hReferenceIdeal := hReferenceIdeal) (hPre_finite_unbiased := hPre_finite_unbiased)
    ∧ preserves_Kernel_KernelIdeal
    ∧ algebraic_KernelIdeal_ReferenceIdeal_pre_finite_unbiased (hKernelIdeal := hKernelIdeal) (hReferenceIdeal := hReferenceIdeal) (hPre_finite_unbiased := hPre_finite_unbiased)
-- ==== Pre_finite_unbiased.lean ====
abbrev S1 : Shape := ⟨1, ![1]⟩
abbrev S64x256x2 : Shape := ⟨3, ![64, 256, 2]⟩
abbrev S4x8 : Shape := ⟨2, ![4, 8]⟩
abbrev S8 : Shape := ⟨1, ![8]⟩
abbrev S1024x32 : Shape := ⟨2, ![1024, 32]⟩
abbrev S1024x256 : Shape := ⟨2, ![1024, 256]⟩
abbrev S1024 : Shape := ⟨1, ![1024]⟩
abbrev S32x256 : Shape := ⟨2, ![32, 256]⟩
abbrev S32 : Shape := ⟨1, ![32]⟩
abbrev S_ : Shape := ⟨0, ![]⟩

class Facts : Prop where
  bcast_S_S64x256x2 : S_.BroadcastsInDim S64x256x2 (![] : Fin 0 → Fin S64x256x2.rank)
  reducesTo_S64x256x2_S_d0_1_2 : S64x256x2.ReducesTo [0, 1, 2] S_
  h_S_ : 0 < S_.numel
  bcast_S_S4x8 : S_.BroadcastsInDim S4x8 (![] : Fin 0 → Fin S4x8.rank)
  reducesTo_S4x8_S_d0_1 : S4x8.ReducesTo [0, 1] S_
  bcast_S_S8 : S_.BroadcastsInDim S8 (![] : Fin 0 → Fin S8.rank)
  reducesTo_S8_S_d0 : S8.ReducesTo [0] S_
  bcast_S_S1024 : S_.BroadcastsInDim S1024 (![] : Fin 0 → Fin S1024.rank)
  reducesTo_S1024_S_d0 : S1024.ReducesTo [0] S_
  bcast_S_S32 : S_.BroadcastsInDim S32 (![] : Fin 0 → Fin S32.rank)
  reducesTo_S32_S_d0 : S32.ReducesTo [0] S_

variable [Facts]

def fn_part1 {F : FTy → Type} [FloatOps F] (main_arg7 : FVec F S1024 .f32) (main_arg8 : FVec F S1024 .f32) (main_arg10 : FVec F S32 .f32) (main_v13 : IVec S_ 1) (main_v15 : IVec S8 1) (main_c_5 : IVec S_ 1) : IVec S_ 1 :=
  let main_v16 : IVec S_ 1 := (fun x v => Host.reduce IntOp.andi x v reducesTo_S8_S_d0 h_S_) main_v15 main_c_5
  let main_cst_6 : FVec F S_ .f32 := constant S_ .f32 0x00000000#32
  let main_v17 : FVec F S1024 .f32 := broadcastInDim S1024 ![] bcast_S_S1024 main_cst_6
  let main_v18 : IVec S1024 1 := cmpf .oeq main_arg7 main_v17
  let main_c_7 : IVec S_ 1 := constantI S_ 1 1#1
  let main_v19 : IVec S_ 1 := (fun x v => Host.reduce IntOp.andi x v reducesTo_S1024_S_d0 h_S_) main_v18 main_c_7
  let main_v20 : IVec S_ 1 := andi main_v16 main_v19
  let main_cst_8 : FVec F S_ .f32 := constant S_ .f32 0x00000000#32
  let main_v21 : FVec F S1024 .f32 := broadcastInDim S1024 ![] bcast_S_S1024 main_cst_8
  let main_v22 : IVec S1024 1 := cmpf .oeq main_arg8 main_v21
  let main_c_9 : IVec S_ 1 := constantI S_ 1 1#1
  let main_v23 : IVec S_ 1 := (fun x v => Host.reduce IntOp.andi x v reducesTo_S1024_S_d0 h_S_) main_v22 main_c_9
  let main_v24 : IVec S_ 1 := andi main_v20 main_v23
  let main_cst_10 : FVec F S_ .f32 := constant S_ .f32 0x00000000#32
  let main_v25 : FVec F S32 .f32 := broadcastInDim S32 ![] bcast_S_S32 main_cst_10
  let main_v26 : IVec S32 1 := cmpf .oeq main_arg10 main_v25
  let main_c_11 : IVec S_ 1 := constantI S_ 1 1#1
  let main_v27 : IVec S_ 1 := (fun x v => Host.reduce IntOp.andi x v reducesTo_S32_S_d0 h_S_) main_v26 main_c_11
  let main_v28 : IVec S_ 1 := andi main_v24 main_v27
  let main_v29 : IVec S_ 1 := andi main_v13 main_v28
  main_v29

def fn {F : FTy → Type} [FloatOps F] (main_arg0 : IVec S1 32) (main_arg1 : FVec F S64x256x2 .f32) (main_arg2 : FVec F S64x256x2 .f32) (main_arg3 : FVec F S4x8 .f32) (main_arg4 : FVec F S8 .f32) (main_arg5 : FVec F S1024x32 .f32) (main_arg6 : FVec F S1024x256 .f32) (main_arg7 : FVec F S1024 .f32) (main_arg8 : FVec F S1024 .f32) (main_arg9 : FVec F S32x256 .f32) (main_arg10 : FVec F S32 .f32) : IVec S_ 1 :=
  let main_v0 : FVec F S64x256x2 .f32 := Host.absf main_arg1
  let main_cst : FVec F S_ .f32 := constant S_ .f32 0x7F800000#32
  let main_v1 : FVec F S64x256x2 .f32 := broadcastInDim S64x256x2 ![] bcast_S_S64x256x2 main_cst
  let main_v2 : IVec S64x256x2 1 := cmpf .olt main_v0 main_v1
  let main_c : IVec S_ 1 := constantI S_ 1 1#1
  let main_v3 : IVec S_ 1 := (fun x v => Host.reduce IntOp.andi x v reducesTo_S64x256x2_S_d0_1_2 h_S_) main_v2 main_c
  let main_v4 : FVec F S64x256x2 .f32 := Host.absf main_arg2
  let main_cst_0 : FVec F S_ .f32 := constant S_ .f32 0x7F800000#32
  let main_v5 : FVec F S64x256x2 .f32 := broadcastInDim S64x256x2 ![] bcast_S_S64x256x2 main_cst_0
  let main_v6 : IVec S64x256x2 1 := cmpf .olt main_v4 main_v5
  let main_c_1 : IVec S_ 1 := constantI S_ 1 1#1
  let main_v7 : IVec S_ 1 := (fun x v => Host.reduce IntOp.andi x v reducesTo_S64x256x2_S_d0_1_2 h_S_) main_v6 main_c_1
  let main_v8 : IVec S_ 1 := andi main_v3 main_v7
  let main_v9 : FVec F S4x8 .f32 := Host.absf main_arg3
  let main_cst_2 : FVec F S_ .f32 := constant S_ .f32 0x7F800000#32
  let main_v10 : FVec F S4x8 .f32 := broadcastInDim S4x8 ![] bcast_S_S4x8 main_cst_2
  let main_v11 : IVec S4x8 1 := cmpf .olt main_v9 main_v10
  let main_c_3 : IVec S_ 1 := constantI S_ 1 1#1
  let main_v12 : IVec S_ 1 := (fun x v => Host.reduce IntOp.andi x v reducesTo_S4x8_S_d0_1 h_S_) main_v11 main_c_3
  let main_v13 : IVec S_ 1 := andi main_v8 main_v12
  let main_cst_4 : FVec F S_ .f32 := constant S_ .f32 0x00000000#32
  let main_v14 : FVec F S8 .f32 := broadcastInDim S8 ![] bcast_S_S8 main_cst_4
  let main_v15 : IVec S8 1 := cmpf .oeq main_arg4 main_v14
  let main_c_5 : IVec S_ 1 := constantI S_ 1 1#1
  fn_part1 (F := F) main_arg7 main_arg8 main_arg10 main_v13 main_v15 main_c_5
-- ==== Kernel.lean ====
abbrev S1 : Shape := ⟨1, ![1]⟩
abbrev S64x256x2 : Shape := ⟨3, ![64, 256, 2]⟩
abbrev S4x8 : Shape := ⟨2, ![4, 8]⟩
abbrev S8 : Shape := ⟨1, ![8]⟩
abbrev S1024x32 : Shape := ⟨2, ![1024, 32]⟩
abbrev S1024x256 : Shape := ⟨2, ![1024, 256]⟩
abbrev S1024 : Shape := ⟨1, ![1024]⟩
abbrev S32x256 : Shape := ⟨2, ![32, 256]⟩
abbrev S32 : Shape := ⟨1, ![32]⟩
abbrev S64x2x256 : Shape := ⟨3, ![64, 2, 256]⟩
abbrev S64x4x256 : Shape := ⟨3, ![64, 4, 256]⟩
abbrev S16384x32 : Shape := ⟨2, ![16384, 32]⟩
abbrev S32x4x256 : Shape := ⟨3, ![32, 4, 256]⟩
abbrev S8192x32 : Shape := ⟨2, ![8192, 32]⟩
abbrev S256x256 : Shape := ⟨2, ![256, 256]⟩
abbrev S8x4 : Shape := ⟨2, ![8, 4]⟩
abbrev S1x4x256 : Shape := ⟨3, ![1, 4, 256]⟩
abbrev S4x256 : Shape := ⟨2, ![4, 256]⟩
abbrev S2x256 : Shape := ⟨2, ![2, 256]⟩
abbrev S256x4 : Shape := ⟨2, ![256, 4]⟩
abbrev S1x256 : Shape := ⟨2, ![1, 256]⟩
abbrev S256x1 : Shape := ⟨2, ![256, 1]⟩
abbrev S8x256 : Shape := ⟨2, ![8, 256]⟩
abbrev S256 : Shape := ⟨1, ![256]⟩
abbrev S256x32 : Shape := ⟨2, ![256, 32]⟩

abbrev nBuf : Space → Nat
  | .hbm => 15
  | .vmem => 7
  | .smem => 0
  | _ => 0

abbrev bufTy : (tb : Table) → Fin (tcTables nBuf tb) → BufTy
  | .hbm, ⟨0, _⟩ => ⟨S1, .i32⟩
  | .hbm, ⟨1, _⟩ => ⟨S64x256x2, .f32⟩
  | .hbm, ⟨2, _⟩ => ⟨S64x256x2, .f32⟩
  | .hbm, ⟨3, _⟩ => ⟨S4x8, .f32⟩
  | .hbm, ⟨4, _⟩ => ⟨S8, .f32⟩
  | .hbm, ⟨5, _⟩ => ⟨S1024x32, .f32⟩
  | .hbm, ⟨6, _⟩ => ⟨S1024x256, .f32⟩
  | .hbm, ⟨7, _⟩ => ⟨S1024, .f32⟩
  | .hbm, ⟨8, _⟩ => ⟨S1024, .f32⟩
  | .hbm, ⟨9, _⟩ => ⟨S32x256, .f32⟩
  | .hbm, ⟨10, _⟩ => ⟨S32, .f32⟩
  | .hbm, ⟨11, _⟩ => ⟨S64x2x256, .f32⟩
  | .hbm, ⟨12, _⟩ => ⟨S64x2x256, .f32⟩
  | .hbm, ⟨13, _⟩ => ⟨S64x4x256, .f32⟩
  | .hbm, ⟨14, _⟩ => ⟨S16384x32, .f32⟩
  | .local _ .vmem, ⟨0, _⟩ => ⟨S32x4x256, .f32⟩
  | .local _ .vmem, ⟨1, _⟩ => ⟨S32x4x256, .f32⟩
  | .local _ .vmem, ⟨2, _⟩ => ⟨S4x8, .f32⟩
  | .local _ .vmem, ⟨3, _⟩ => ⟨S1024x32, .f32⟩
  | .local _ .vmem, ⟨4, _⟩ => ⟨S32x256, .f32⟩
  | .local _ .vmem, ⟨5, _⟩ => ⟨S8192x32, .f32⟩
  | .local _ .vmem, ⟨6, _⟩ => ⟨S8192x32, .f32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x4x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8192x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F] [Named F]
def κ : String → Option EReal := fun
  | "big" => some ⊤
  | _ => none
-- ==== ReferenceIdeal.lean ====
abbrev S1 : Shape := ⟨1, ![1]⟩
abbrev S64x256x2 : Shape := ⟨3, ![64, 256, 2]⟩
abbrev S4x8 : Shape := ⟨2, ![4, 8]⟩
abbrev S8 : Shape := ⟨1, ![8]⟩
abbrev S1024x32 : Shape := ⟨2, ![1024, 32]⟩
abbrev S1024x256 : Shape := ⟨2, ![1024, 256]⟩
abbrev S1024 : Shape := ⟨1, ![1024]⟩
abbrev S32x256 : Shape := ⟨2, ![32, 256]⟩
abbrev S32 : Shape := ⟨1, ![32]⟩
abbrev S255 : Shape := ⟨1, ![255]⟩
abbrev S1x255 : Shape := ⟨2, ![1, 255]⟩
abbrev S256 : Shape := ⟨1, ![256]⟩
abbrev S256x1 : Shape := ⟨2, ![256, 1]⟩
abbrev S256x255 : Shape := ⟨2, ![256, 255]⟩
abbrev S64x1x256x2 : Shape := ⟨4, ![64, 1, 256, 2]⟩
abbrev S64x256x1x2 : Shape := ⟨4, ![64, 256, 1, 2]⟩
abbrev S64x256x256x2 : Shape := ⟨4, ![64, 256, 256, 2]⟩
abbrev S_ : Shape := ⟨0, ![]⟩
abbrev S256x255x1 : Shape := ⟨3, ![256, 255, 1]⟩
abbrev S256x255x2 : Shape := ⟨3, ![256, 255, 2]⟩
abbrev S64x256x255x2 : Shape := ⟨4, ![64, 256, 255, 2]⟩
abbrev S64x256x255x4 : Shape := ⟨4, ![64, 256, 255, 4]⟩
abbrev S64x256x255 : Shape := ⟨3, ![64, 256, 255]⟩
abbrev S64x256x4 : Shape := ⟨3, ![64, 256, 4]⟩
abbrev S64x256x4x1 : Shape := ⟨4, ![64, 256, 4, 1]⟩
abbrev S64x256x4x4 : Shape := ⟨4, ![64, 256, 4, 4]⟩
abbrev S64x256x4x4x1 : Shape := ⟨5, ![64, 256, 4, 4, 1]⟩
abbrev S1x1x1x1x1 : Shape := ⟨5, ![1, 1, 1, 1, 1]⟩
abbrev S64x256x4x8 : Shape := ⟨4, ![64, 256, 4, 8]⟩
abbrev S1x1x1x8 : Shape := ⟨4, ![1, 1, 1, 8]⟩
abbrev S16384x32 : Shape := ⟨2, ![16384, 32]⟩
abbrev S16384x256 : Shape := ⟨2, ![16384, 256]⟩
abbrev S32x1024 : Shape := ⟨2, ![32, 1024]⟩
abbrev S16384x1024 : Shape := ⟨2, ![16384, 1024]⟩
abbrev S1x1024 : Shape := ⟨2, ![1, 1024]⟩
abbrev S256x1024 : Shape := ⟨2, ![256, 1024]⟩
abbrev S256x32 : Shape := ⟨2, ![256, 32]⟩
abbrev S1x32 : Shape := ⟨2, ![1, 32]⟩

abbrev nBuf : Space → Nat
  | .hbm => 201
  | .vmem => 0
  | .smem => 0
  | _ => 0

abbrev hbmTy0_0 (i : Nat) : BufTy := match i % 128 with
  | 0 => ⟨S1, .i32⟩
  | 1 => ⟨S64x256x2, .f32⟩
  | 2 => ⟨S64x256x2, .f32⟩
  | 3 => ⟨S4x8, .f32⟩
  | 4 => ⟨S8, .f32⟩
  | 5 => ⟨S1024x32, .f32⟩
  | 6 => ⟨S1024x256, .f32⟩
  | 7 => ⟨S1024, .f32⟩
  | 8 => ⟨S1024, .f32⟩
  | 9 => ⟨S32x256, .f32⟩
  | 10 => ⟨S32, .f32⟩
  | 11 => ⟨S255, .i32⟩
  | 12 => ⟨S1x255, .i32⟩
  | 13 => ⟨S255, .i32⟩
  | 14 => ⟨S1x255, .i32⟩
  | 15 => ⟨S256, .i32⟩
  | 16 => ⟨S256x1, .i32⟩
  | 17 => ⟨S256x255, .i32⟩
  | 18 => ⟨S256x255, .i32⟩
  | 19 => ⟨S256x255, .i1⟩
  | 20 => ⟨S256x255, .i32⟩
  | 21 => ⟨S256x255, .i32⟩
  | 22 => ⟨S256x255, .i32⟩
  | 23 => ⟨S256, .i32⟩
  | 24 => ⟨S256x1, .i32⟩
  | 25 => ⟨S64x1x256x2, .f32⟩
  | 26 => ⟨S64x256x1x2, .f32⟩
  | 27 => ⟨S64x256x256x2, .f32⟩
  | 28 => ⟨S64x256x256x2, .f32⟩
  | 29 => ⟨S64x256x256x2, .f32⟩
  | 30 => ⟨S_, .i32⟩
  | 31 => ⟨S256x1, .i32⟩
  | 32 => ⟨S256x1, .i1⟩
  | 33 => ⟨S_, .i32⟩
  | 34 => ⟨S256x1, .i32⟩
  | 35 => ⟨S256x1, .i32⟩
  | 36 => ⟨S256x1, .i32⟩
  | 37 => ⟨S_, .i32⟩
  | 38 => ⟨S256x255, .i32⟩
  | 39 => ⟨S256x255, .i1⟩
  | 40 => ⟨S_, .i32⟩
  | 41 => ⟨S256x255, .i32⟩
  | 42 => ⟨S256x255, .i32⟩
  | 43 => ⟨S256x255, .i32⟩
  | 44 => ⟨S256x255, .i32⟩
  | 45 => ⟨S256x255x1, .i32⟩
  | 46 => ⟨S256x255x1, .i32⟩
  | 47 => ⟨S256x255x2, .i32⟩
  | 48 => ⟨S64x256x255x2, .f32⟩
  | 49 => ⟨S64x256x2, .f32⟩
  | 50 => ⟨S64x1x256x2, .f32⟩
  | 51 => ⟨S64x256x1x2, .f32⟩
  | 52 => ⟨S64x256x256x2, .f32⟩
  | 53 => ⟨S64x256x256x2, .f32⟩
  | 54 => ⟨S64x256x256x2, .f32⟩
  | 55 => ⟨S_, .i32⟩
  | 56 => ⟨S256x1, .i32⟩
  | 57 => ⟨S256x1, .i1⟩
  | 58 => ⟨S_, .i32⟩
  | 59 => ⟨S256x1, .i32⟩
  | 60 => ⟨S256x1, .i32⟩
  | 61 => ⟨S256x1, .i32⟩
  | 62 => ⟨S_, .i32⟩
  | 63 => ⟨S256x255, .i32⟩
  | 64 => ⟨S256x255, .i1⟩
  | 65 => ⟨S_, .i32⟩
  | 66 => ⟨S256x255, .i32⟩
  | 67 => ⟨S256x255, .i32⟩
  | 68 => ⟨S256x255, .i32⟩
  | 69 => ⟨S256x255, .i32⟩
  | 70 => ⟨S256x255x1, .i32⟩
  | 71 => ⟨S256x255x1, .i32⟩
  | 72 => ⟨S256x255x2, .i32⟩
  | 73 => ⟨S64x256x255x2, .f32⟩
  | 74 => ⟨S64x256x255x4, .f32⟩
  | 75 => ⟨S64x256x255x2, .f32⟩
  | 76 => ⟨S_, .f32⟩
  | 77 => ⟨S64x256x255, .f32⟩
  | 78 => ⟨S64x256x255, .f32⟩
  | 79 => ⟨S_, .f32⟩
  | 80 => ⟨S64x256x255, .i1⟩
  | 81 => ⟨S_, .f32⟩
  | 82 => ⟨S64x256x255, .f32⟩
  | 83 => ⟨S64x256x255, .f32⟩
  | 84 => ⟨S_, .f32⟩
  | 85 => ⟨S64x256x255, .f32⟩
  | 86 => ⟨S64x256x255, .i1⟩
  | 87 => ⟨S_, .f32⟩
  | 88 => ⟨S64x256x255, .f32⟩
  | 89 => ⟨S64x256x255, .f32⟩
  | 90 => ⟨S_, .f32⟩
  | 91 => ⟨S64x256x255, .f32⟩
  | 92 => ⟨S64x256x255, .i1⟩
  | 93 => ⟨S_, .f32⟩
  | 94 => ⟨S64x256x255, .f32⟩
  | 95 => ⟨S64x256x255, .f32⟩
  | 96 => ⟨S64x256x255, .f32⟩
  | 97 => ⟨S64x256x4, .f32⟩
  | 98 => ⟨S64x256x4, .i32⟩
  | 99 => ⟨S64x256x4x1, .i32⟩
  | 100 => ⟨S64x256x4x4, .i32⟩
  | 101 => ⟨S_, .i32⟩
  | 102 => ⟨S64x256x4x4, .i32⟩
  | 103 => ⟨S64x256x4x4, .i1⟩
  | 104 => ⟨S_, .i32⟩
  | 105 => ⟨S64x256x4x4, .i32⟩
  | 106 => ⟨S64x256x4x4, .i32⟩
  | 107 => ⟨S64x256x4x4, .i32⟩
  | 108 => ⟨S64x256x4x4x1, .i32⟩
  | 109 => ⟨S1, .i32⟩
  | 110 => ⟨S_, .i32⟩
  | 111 => ⟨S64x256x4x4x1, .i32⟩
  | 112 => ⟨S64x256x4x4x1, .i1⟩
  | 113 => ⟨S1x1x1x1x1, .i32⟩
  | 114 => ⟨S64x256x4x4x1, .i32⟩
  | 115 => ⟨S64x256x4x4x1, .i1⟩
  | 116 => ⟨S64x256x4x4x1, .i1⟩
  | 117 => ⟨S_, .i1⟩
  | 118 => ⟨S64x256x4x4, .i1⟩
  | 119 => ⟨S64x256x4x4, .f32⟩
  | 120 => ⟨S_, .f32⟩
  | 121 => ⟨S64x256x4x4, .f32⟩
  | 122 => ⟨S64x256x4x4, .f32⟩
  | 123 => ⟨S64x256x4x4, .i1⟩
  | 124 => ⟨S_, .f32⟩
  | 125 => ⟨S64x256x4x4, .f32⟩
  | 126 => ⟨S64x256x4x4, .f32⟩
  | 127 => ⟨S_, .f32⟩
  | _ => ⟨S1, .i32⟩

abbrev hbmTy0_1 (i : Nat) : BufTy := match i % 128 with
  | 0 => ⟨S64x256x4x4, .f32⟩
  | 1 => ⟨S64x256x4x4, .i1⟩
  | 2 => ⟨S_, .f32⟩
  | 3 => ⟨S64x256x4x4, .f32⟩
  | 4 => ⟨S64x256x4x4, .f32⟩
  | 5 => ⟨S_, .f32⟩
  | 6 => ⟨S64x256x4x4, .f32⟩
  | 7 => ⟨S64x256x4x4, .i1⟩
  | 8 => ⟨S_, .f32⟩
  | 9 => ⟨S64x256x4x4, .f32⟩
  | 10 => ⟨S64x256x4x4, .f32⟩
  | 11 => ⟨S64x256x4x8, .f32⟩
  | 12 => ⟨S1x1x1x8, .f32⟩
  | 13 => ⟨S64x256x4x8, .f32⟩
  | 14 => ⟨S64x256x4x8, .f32⟩
  | 15 => ⟨S_, .f32⟩
  | 16 => ⟨S64x256x4x8, .f32⟩
  | 17 => ⟨S64x256x4x8, .f32⟩
  | 18 => ⟨S16384x32, .f32⟩
  | 19 => ⟨S_, .f32⟩
  | 20 => ⟨S16384x256, .f32⟩
  | 21 => ⟨S_, .f32⟩
  | 22 => ⟨S16384x256, .f32⟩
  | 23 => ⟨S32x1024, .f32⟩
  | 24 => ⟨S16384x1024, .f32⟩
  | 25 => ⟨S1x1024, .f32⟩
  | 26 => ⟨S16384x1024, .f32⟩
  | 27 => ⟨S16384x1024, .f32⟩
  | 28 => ⟨S256x1024, .f32⟩
  | 29 => ⟨S16384x1024, .f32⟩
  | 30 => ⟨S16384x1024, .f32⟩
  | 31 => ⟨S1x1024, .f32⟩
  | 32 => ⟨S16384x1024, .f32⟩
  | 33 => ⟨S16384x1024, .f32⟩
  | 34 => ⟨S16384x256, .f32⟩
  | 35 => ⟨S16384x256, .f32⟩
  | 36 => ⟨S16384x256, .f32⟩
  | 37 => ⟨S16384x256, .f32⟩
  | 38 => ⟨S16384x256, .f32⟩
  | 39 => ⟨S16384x256, .f32⟩
  | 40 => ⟨S_, .f32⟩
  | 41 => ⟨S16384x256, .f32⟩
  | 42 => ⟨S16384x256, .f32⟩
  | 43 => ⟨S_, .f32⟩
  | 44 => ⟨S16384x256, .f32⟩
  | 45 => ⟨S16384x256, .f32⟩
  | 46 => ⟨S16384x256, .f32⟩
  | 47 => ⟨S16384x256, .f32⟩
  | 48 => ⟨S_, .f32⟩
  | 49 => ⟨S16384x256, .f32⟩
  | 50 => ⟨S16384x256, .f32⟩
  | 51 => ⟨S_, .f32⟩
  | 52 => ⟨S16384x256, .f32⟩
  | 53 => ⟨S16384x256, .f32⟩
  | 54 => ⟨S16384x256, .f32⟩
  | 55 => ⟨S16384x256, .f32⟩
  | 56 => ⟨S16384x256, .f32⟩
  | 57 => ⟨S_, .f32⟩
  | 58 => ⟨S16384x256, .f32⟩
  | 59 => ⟨S16384x256, .f32⟩
  | 60 => ⟨S_, .f32⟩
  | 61 => ⟨S16384x256, .f32⟩
  | 62 => ⟨S16384x256, .f32⟩
  | 63 => ⟨S16384x256, .f32⟩
  | 64 => ⟨S16384x256, .f32⟩
  | 65 => ⟨S16384x256, .f32⟩
  | 66 => ⟨S16384x256, .f32⟩
  | 67 => ⟨S16384x256, .f32⟩
  | 68 => ⟨S256x32, .f32⟩
  | 69 => ⟨S16384x32, .f32⟩
  | 70 => ⟨S1x32, .f32⟩
  | 71 => ⟨S16384x32, .f32⟩
  | 72 => ⟨S16384x32, .f32⟩
  | _ => ⟨S1, .i32⟩

abbrev hbmTy (i : Nat) : BufTy := match i / 128 with
  | 0 => hbmTy0_0 i
  | 1 => hbmTy0_1 i
  | _ => ⟨S1, .i32⟩

abbrev bufTy : (tb : Table) → Fin (tcTables nBuf tb) → BufTy
  | .hbm, ⟨i, _⟩ => hbmTy i
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c : Ref sig .tc := ⟨.hbm, 30, rfl⟩
abbrev main_v19 : Ref sig .tc := ⟨.hbm, 31, rfl⟩
abbrev main_v20 : Ref sig .tc := ⟨.hbm, 32, rfl⟩
abbrev main_c_0 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_1 : Ref sig .tc := ⟨.hbm, 37, rfl⟩
abbrev main_v24 : Ref sig .tc := ⟨.hbm, 38, rfl⟩
abbrev main_v25 : Ref sig .tc := ⟨.hbm, 39, rfl⟩
abbrev main_c_2 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_c_3 : Ref sig .tc := ⟨.hbm, 55, rfl⟩
abbrev main_v40 : Ref sig .tc := ⟨.hbm, 56, rfl⟩
abbrev main_v41 : Ref sig .tc := ⟨.hbm, 57, rfl⟩
abbrev main_c_4 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_c_5 : Ref sig .tc := ⟨.hbm, 62, rfl⟩
abbrev main_v45 : Ref sig .tc := ⟨.hbm, 63, rfl⟩
abbrev main_v46 : Ref sig .tc := ⟨.hbm, 64, rfl⟩
abbrev main_c_6 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_call0_v0 : Ref sig .tc := ⟨.hbm, 75, rfl⟩
abbrev main_call0_cst : Ref sig .tc := ⟨.hbm, 76, rfl⟩
abbrev main_call0_v1 : Ref sig .tc := ⟨.hbm, 77, rfl⟩
abbrev main_v56 : Ref sig .tc := ⟨.hbm, 78, rfl⟩
abbrev main_cst : Ref sig .tc := ⟨.hbm, 79, rfl⟩
abbrev main_call1_v0 : Ref sig .tc := ⟨.hbm, 80, rfl⟩
abbrev main_call1_v1 : Ref sig .tc := ⟨.hbm, 81, rfl⟩
abbrev main_call1_call0_v0 : Ref sig .tc := ⟨.hbm, 82, rfl⟩
abbrev main_call1_v2 : Ref sig .tc := ⟨.hbm, 83, rfl⟩
abbrev main_call1_cst : Ref sig .tc := ⟨.hbm, 84, rfl⟩
abbrev main_call1_v3 : Ref sig .tc := ⟨.hbm, 85, rfl⟩
abbrev main_call1_v4 : Ref sig .tc := ⟨.hbm, 86, rfl⟩
abbrev main_call1_cst_0 : Ref sig .tc := ⟨.hbm, 87, rfl⟩
abbrev main_call1_call1_v0 : Ref sig .tc := ⟨.hbm, 88, rfl⟩
abbrev main_call1_v5 : Ref sig .tc := ⟨.hbm, 89, rfl⟩
abbrev main_call1_cst_1 : Ref sig .tc := ⟨.hbm, 90, rfl⟩
abbrev main_call1_v6 : Ref sig .tc := ⟨.hbm, 91, rfl⟩
abbrev main_call1_v7 : Ref sig .tc := ⟨.hbm, 92, rfl⟩
abbrev main_call1_cst_2 : Ref sig .tc := ⟨.hbm, 93, rfl⟩
abbrev main_call1_call2_v0 : Ref sig .tc := ⟨.hbm, 94, rfl⟩
abbrev main_v57 : Ref sig .tc := ⟨.hbm, 95, rfl⟩
abbrev main_v58 : Ref sig .tc := ⟨.hbm, 96, rfl⟩
abbrev main_values : Ref sig .tc := ⟨.hbm, 97, rfl⟩
abbrev main_indices : Ref sig .tc := ⟨.hbm, 98, rfl⟩
abbrev main_v59 : Ref sig .tc := ⟨.hbm, 99, rfl⟩
abbrev main_v60 : Ref sig .tc := ⟨.hbm, 100, rfl⟩
abbrev main_call2_c : Ref sig .tc := ⟨.hbm, 101, rfl⟩
abbrev main_call2_v0 : Ref sig .tc := ⟨.hbm, 102, rfl⟩
abbrev main_call2_v1 : Ref sig .tc := ⟨.hbm, 103, rfl⟩
abbrev main_call2_c_0 : Ref sig .tc := ⟨.hbm, 104, rfl⟩
abbrev main_call2_v2 : Ref sig .tc := ⟨.hbm, 105, rfl⟩
abbrev main_call2_v3 : Ref sig .tc := ⟨.hbm, 106, rfl⟩
abbrev main_call2_v4 : Ref sig .tc := ⟨.hbm, 107, rfl⟩
abbrev main_call2_v5 : Ref sig .tc := ⟨.hbm, 108, rfl⟩
abbrev main_call2_c_1 : Ref sig .tc := ⟨.hbm, 109, rfl⟩
abbrev main_call2_c_2 : Ref sig .tc := ⟨.hbm, 110, rfl⟩
abbrev main_call2_v6 : Ref sig .tc := ⟨.hbm, 111, rfl⟩
abbrev main_call2_v7 : Ref sig .tc := ⟨.hbm, 112, rfl⟩
abbrev main_call2_v8 : Ref sig .tc := ⟨.hbm, 113, rfl⟩
abbrev main_call2_v9 : Ref sig .tc := ⟨.hbm, 114, rfl⟩
abbrev main_call2_v10 : Ref sig .tc := ⟨.hbm, 115, rfl⟩
abbrev main_call2_v11 : Ref sig .tc := ⟨.hbm, 116, rfl⟩
abbrev main_call2_c_3 : Ref sig .tc := ⟨.hbm, 117, rfl⟩
abbrev main_call2_v12 : Ref sig .tc := ⟨.hbm, 118, rfl⟩
abbrev main_call2_v13 : Ref sig .tc := ⟨.hbm, 119, rfl⟩
abbrev main_call2_cst : Ref sig .tc := ⟨.hbm, 120, rfl⟩
abbrev main_call2_v14 : Ref sig .tc := ⟨.hbm, 121, rfl⟩
abbrev main_v61 : Ref sig .tc := ⟨.hbm, 122, rfl⟩
abbrev main_call3_v0 : Ref sig .tc := ⟨.hbm, 123, rfl⟩
abbrev main_call3_cst : Ref sig .tc := ⟨.hbm, 124, rfl⟩
abbrev main_call3_call0_v0 : Ref sig .tc := ⟨.hbm, 125, rfl⟩
abbrev main_call3_v1 : Ref sig .tc := ⟨.hbm, 126, rfl⟩
abbrev main_call3_cst_0 : Ref sig .tc := ⟨.hbm, 127, rfl⟩
abbrev main_call3_v2 : Ref sig .tc := ⟨.hbm, 128, rfl⟩
abbrev main_call3_v3 : Ref sig .tc := ⟨.hbm, 129, rfl⟩
abbrev main_call3_cst_1 : Ref sig .tc := ⟨.hbm, 130, rfl⟩
abbrev main_call3_call1_v0 : Ref sig .tc := ⟨.hbm, 131, rfl⟩
abbrev main_call3_v4 : Ref sig .tc := ⟨.hbm, 132, rfl⟩
abbrev main_call3_cst_2 : Ref sig .tc := ⟨.hbm, 133, rfl⟩
abbrev main_call3_v5 : Ref sig .tc := ⟨.hbm, 134, rfl⟩
abbrev main_call3_v6 : Ref sig .tc := ⟨.hbm, 135, rfl⟩
abbrev main_call3_cst_3 : Ref sig .tc := ⟨.hbm, 136, rfl⟩
abbrev main_call3_call2_v0 : Ref sig .tc := ⟨.hbm, 137, rfl⟩
abbrev main_v62 : Ref sig .tc := ⟨.hbm, 138, rfl⟩
abbrev main_v63 : Ref sig .tc := ⟨.hbm, 139, rfl⟩
abbrev main_v64 : Ref sig .tc := ⟨.hbm, 140, rfl⟩
abbrev main_v65 : Ref sig .tc := ⟨.hbm, 141, rfl⟩
abbrev main_v66 : Ref sig .tc := ⟨.hbm, 142, rfl⟩
abbrev main_call4_cst : Ref sig .tc := ⟨.hbm, 143, rfl⟩
abbrev main_call4_v0 : Ref sig .tc := ⟨.hbm, 144, rfl⟩
abbrev main_v67 : Ref sig .tc := ⟨.hbm, 145, rfl⟩
abbrev main_v68 : Ref sig .tc := ⟨.hbm, 146, rfl⟩
abbrev main_cst_7 : Ref sig .tc := ⟨.hbm, 147, rfl⟩
abbrev main_v69 : Ref sig .tc := ⟨.hbm, 148, rfl⟩
abbrev main_cst_8 : Ref sig .tc := ⟨.hbm, 149, rfl⟩
abbrev main_v70 : Ref sig .tc := ⟨.hbm, 150, rfl⟩
abbrev main_v71 : Ref sig .tc := ⟨.hbm, 151, rfl⟩
abbrev main_v72 : Ref sig .tc := ⟨.hbm, 152, rfl⟩
abbrev main_v73 : Ref sig .tc := ⟨.hbm, 153, rfl⟩
abbrev main_v74 : Ref sig .tc := ⟨.hbm, 154, rfl⟩
abbrev main_v75 : Ref sig .tc := ⟨.hbm, 155, rfl⟩
abbrev main_v76 : Ref sig .tc := ⟨.hbm, 156, rfl⟩
abbrev main_v77 : Ref sig .tc := ⟨.hbm, 157, rfl⟩
abbrev main_v78 : Ref sig .tc := ⟨.hbm, 158, rfl⟩
abbrev main_v79 : Ref sig .tc := ⟨.hbm, 159, rfl⟩
abbrev main_v80 : Ref sig .tc := ⟨.hbm, 160, rfl⟩
abbrev main_v81 : Ref sig .tc := ⟨.hbm, 161, rfl⟩
abbrev main_v82 : Ref sig .tc := ⟨.hbm, 162, rfl⟩
abbrev main_v83 : Ref sig .tc := ⟨.hbm, 163, rfl⟩
abbrev main_v84 : Ref sig .tc := ⟨.hbm, 164, rfl⟩
abbrev main_v85 : Ref sig .tc := ⟨.hbm, 165, rfl⟩
abbrev main_v86 : Ref sig .tc := ⟨.hbm, 166, rfl⟩
abbrev main_v87 : Ref sig .tc := ⟨.hbm, 167, rfl⟩
abbrev main_cst_9 : Ref sig .tc := ⟨.hbm, 168, rfl⟩
abbrev main_v88 : Ref sig .tc := ⟨.hbm, 169, rfl⟩
abbrev main_v89 : Ref sig .tc := ⟨.hbm, 170, rfl⟩
abbrev main_cst_10 : Ref sig .tc := ⟨.hbm, 171, rfl⟩
abbrev main_v90 : Ref sig .tc := ⟨.hbm, 172, rfl⟩
abbrev main_v91 : Ref sig .tc := ⟨.hbm, 173, rfl⟩
abbrev main_v92 : Ref sig .tc := ⟨.hbm, 174, rfl⟩
abbrev main_v93 : Ref sig .tc := ⟨.hbm, 175, rfl⟩
abbrev main_cst_11 : Ref sig .tc := ⟨.hbm, 176, rfl⟩
abbrev main_v94 : Ref sig .tc := ⟨.hbm, 177, rfl⟩
abbrev main_v95 : Ref sig .tc := ⟨.hbm, 178, rfl⟩
abbrev main_cst_12 : Ref sig .tc := ⟨.hbm, 179, rfl⟩
abbrev main_v96 : Ref sig .tc := ⟨.hbm, 180, rfl⟩
abbrev main_v97 : Ref sig .tc := ⟨.hbm, 181, rfl⟩
abbrev main_v98 : Ref sig .tc := ⟨.hbm, 182, rfl⟩
abbrev main_v99 : Ref sig .tc := ⟨.hbm, 183, rfl⟩
abbrev main_v100 : Ref sig .tc := ⟨.hbm, 184, rfl⟩
abbrev main_cst_13 : Ref sig .tc := ⟨.hbm, 185, rfl⟩
abbrev main_v101 : Ref sig .tc := ⟨.hbm, 186, rfl⟩
abbrev main_v102 : Ref sig .tc := ⟨.hbm, 187, rfl⟩
abbrev main_cst_14 : Ref sig .tc := ⟨.hbm, 188, rfl⟩
abbrev main_v103 : Ref sig .tc := ⟨.hbm, 189, rfl⟩
abbrev main_v104 : Ref sig .tc := ⟨.hbm, 190, rfl⟩
abbrev main_v105 : Ref sig .tc := ⟨.hbm, 191, rfl⟩
abbrev main_v106 : Ref sig .tc := ⟨.hbm, 192, rfl⟩
abbrev main_v107 : Ref sig .tc := ⟨.hbm, 193, rfl⟩
abbrev main_v108 : Ref sig .tc := ⟨.hbm, 194, rfl⟩
abbrev main_v109 : Ref sig .tc := ⟨.hbm, 195, rfl⟩
abbrev main_v110 : Ref sig .tc := ⟨.hbm, 196, rfl⟩
abbrev main_v111 : Ref sig .tc := ⟨.hbm, 197, rfl⟩
abbrev main_v112 : Ref sig .tc := ⟨.hbm, 198, rfl⟩
abbrev main_v113 : Ref sig .tc := ⟨.hbm, 199, rfl⟩
abbrev main_v114 : Ref sig .tc := ⟨.hbm, 200, rfl⟩

abbrev nD : Nat := 1
abbrev τ : Topo := Topo.v7x

variable {F : FTy → Type} [FloatOps F]
-- ==== Proof.Assumed.lean ====
/- What the precondition says: finite positions and embedding matrix, biases zero. -/
module

public import proofs.«01_k».proof.Pre_finite_unbiased
public import Idealize.ShloMosaic.Lib.Pointwise
public import Idealize.ShloMosaic.Lib.ReduceAll

@[expose] public section

noncomputable section

namespace Cert.Pre_finite_unbiased

open Idealize.ShloMosaic Idealize.ShloMosaic.Pointwise

/-- The shape relations of the precondition's operations. -/
theorem facts : Facts := ⟨by decide, by decide, by decide, by decide, by decide, by decide, by decide, by decide, by decide, by decide, by decide⟩

/-- A conjunction of two truth values that holds has both of its parts hold. -/
theorem both (a b : IVec S_ 1) (h : andi a b = fun _ => 1#1) : a = (fun _ => 1#1) ∧ b = (fun _ => 1#1) := by
  have key : ∀ x y : BitVec 1, x &&& y = 1#1 → x = 1#1 ∧ y = 1#1 := by decide
  exact ⟨funext fun i => (key (a i) (b i) (congrFun h i)).1, funext fun i => (key (a i) (b i) (congrFun h i)).2⟩

/-- A conjunction over a whole array that holds has every entry hold. -/
theorem all_of {s : Shape} {axes : List (Fin s.rank)} (x : IVec s 1) (v : IVec S_ 1) (hr : s.ReducesTo axes S_) (hu : 0 < S_.numel)
    (h : Host.reduce IntOp.andi x v hr hu = fun _ => 1#1) (i : s.Idx) : x i = 1#1 :=
  haveI : Subsingleton S_.Idx := ⟨fun _ _ => funext fun k => k.elim0⟩
  Host.reduce_andi_all x v hr hu _ (congrFun h fun k => k.elim0) i

/-- A size below plus infinity is a real's. -/
theorem real_of_abs (x : EReal) (h : Ideal.cmp .olt (max x (-x)) (Ideal.ofBits .f32 0x7F800000#32) = 1#1) : ∃ r : ℝ, x = (r : EReal) := by
  have e : Ideal.ofBits .f32 0x7F800000#32 = ⊤ := by simp [Ideal.ofBits, Ideal.ieee]
  rw [e] at h
  induction x with
  | bot => simp [Ideal.cmp] at h
  | top => simp [Ideal.cmp] at h
  | coe r => exact ⟨r, rfl⟩

/-- A number that compares equal to the word of zero is zero. -/
theorem zero_of_eq (x : EReal) (h : Ideal.cmp .oeq x (Ideal.ofBits .f32 0x00000000#32) = 1#1) : x = 0 := by
  by_contra hne
  simp [Ideal.cmp, Ideal.ofBits_zero, hne] at h

/-- An array whose sizes are all below plus infinity holds real numbers only. -/
theorem real_all {s : Shape} {axes : List (Fin s.rank)} (x : FVec Ideal s .f32) (hb : S_.BroadcastsInDim s (![] : Fin 0 → Fin s.rank)) (v : IVec S_ 1)
    (hr : s.ReducesTo axes S_) (hu : 0 < S_.numel)
    (h : Host.reduce IntOp.andi (cmpf .olt (Host.absf x) (broadcastInDim s ![] hb (constant S_ .f32 0x7F800000#32))) v hr hu = fun _ => 1#1)
    (i : s.Idx) : ∃ r : ℝ, x i = (r : EReal) :=
  real_of_abs (x i) (all_of _ v hr hu h i)

/-- An array that equals zero throughout is zero at every entry. -/
theorem zero_all {s : Shape} {axes : List (Fin s.rank)} (x : FVec Ideal s .f32) (hb : S_.BroadcastsInDim s (![] : Fin 0 → Fin s.rank)) (v : IVec S_ 1)
    (hr : s.ReducesTo axes S_) (hu : 0 < S_.numel)
    (h : Host.reduce IntOp.andi (cmpf .oeq x (broadcastInDim s ![] hb (constant S_ .f32 0x00000000#32))) v hr hu = fun _ => 1#1)
    (i : s.Idx) : x i = (0 : EReal) :=
  zero_of_eq (x i) (all_of _ v hr hu h i)

variable [Facts]
open Facts

/-- The precondition read entry by entry. -/
theorem fn_all (a0 : IVec S1 32) (a1 a2 : FVec Ideal S64x256x2 .f32) (a3 : FVec Ideal S4x8 .f32) (a4 : FVec Ideal S8 .f32)
    (a5 : FVec Ideal S1024x32 .f32) (a6 : FVec Ideal S1024x256 .f32) (a7 a8 : FVec Ideal S1024 .f32) (a9 : FVec Ideal S32x256 .f32)
    (a10 : FVec Ideal S32 .f32) (h : fn a0 a1 a2 a3 a4 a5 a6 a7 a8 a9 a10 = fun _ => 1#1) :
    ((∀ i, ∃ r : ℝ, a1 i = (r : EReal)) ∧ (∀ i, ∃ r : ℝ, a2 i = (r : EReal)) ∧ (∀ i, ∃ r : ℝ, a3 i = (r : EReal)))
    ∧ (∀ i, a4 i = (0 : EReal)) ∧ (∀ i, a7 i = (0 : EReal)) ∧ (∀ i, a8 i = (0 : EReal)) ∧ (∀ i, a10 i = (0 : EReal)) := by
  unfold fn fn_part1 at h
  obtain ⟨h13, h28⟩ := both _ _ h
  obtain ⟨h8, h12⟩ := both _ _ h13
  obtain ⟨h3, h7⟩ := both _ _ h8
  obtain ⟨h24, h27⟩ := both _ _ h28
  obtain ⟨h20, h23⟩ := both _ _ h24
  obtain ⟨h16, h19⟩ := both _ _ h20
  exact ⟨⟨real_all _ _ _ reducesTo_S64x256x2_S_d0_1_2 _ h3, real_all _ _ _ reducesTo_S64x256x2_S_d0_1_2 _ h7, real_all _ _ _ reducesTo_S4x8_S_d0_1 _ h12⟩,
    zero_all _ _ _ reducesTo_S8_S_d0 _ h16, zero_all _ _ _ reducesTo_S1024_S_d0 _ h19, zero_all _ _ _ reducesTo_S1024_S_d0 _ h23, zero_all _ _ _ reducesTo_S32_S_d0 _ h27⟩

end Cert.Pre_finite_unbiased

end
-- ==== Proof.Scene.lean ====
/- One scene of the kernel, as vector operations: the features, the masked distances, the embedding, four rounds of
   "nearest remaining column neighbour", the gates and the output projection; and the body's output block as
   thirty-two such scenes, one per stored band of 256 rows. -/
module

public import proofs.«01_k».proof.Proof.Gen.KernelIdeal.Frame
public import Idealize.ShloMosaic.Lib.Pipeline.ValueKit.Tiles

@[expose] public section

set_option maxRecDepth 16384

noncomputable section

namespace Cert.KernelIdeal.Scene

open Idealize.ShloMosaic Idealize.SL.Sem Cert.KernelIdeal Cert.KernelIdeal.Gen

variable {F : FTy → Type} [FloatOps F] [Named F]

/-- Row number equals column number. -/
def eye : IVec S256x256 1 :=
  cmpi .eq (iota .tc S256x256 32 [0] iota_S256x256_d0_w32) (iota .tc S256x256 32 [1] iota_S256x256_d1_w32)

/-- The row number of every entry, as a float. -/
def rowNo : FVec F S256x256 .f32 := sitofp .f32 (iota .tc S256x256 32 [0] iota_S256x256_d0_w32)

/-- A scene's four features per node: its position, and its displacement over the last step. -/
def feats (v : Vec F S1x4x256 .f32) : FVec F S4x256 .f32 :=
  concatenate S4x256 0
    [⟨S2x256, extractStridedSlice S2x256 ![0, 0] (shapeCast S4x256 v shapeCasts_S1x4x256_S4x256) slices_S4x256_o0_0_S2x256⟩,
     ⟨S2x256, subf (extractStridedSlice S2x256 ![0, 0] (shapeCast S4x256 v shapeCasts_S1x4x256_S4x256) slices_S4x256_o0_0_S2x256)
       (extractStridedSlice S2x256 ![2, 0] (shapeCast S4x256 v shapeCasts_S1x4x256_S4x256) slices_S4x256_o2_0_S2x256)⟩]
    concatenates_S2x256_S2x256_S4x256_d0

/-- One coordinate's difference, column node minus row node. -/
def diff0 (f : FVec F S4x256 .f32) : FVec F S256x256 .f32 :=
  subf (broadcastTo S256x256 (extractStridedSlice S1x256 ![0, 0] f slices_S4x256_o0_0_S1x256) broadcasts_S1x256_S256x256)
    (broadcastTo S256x256 (extractStridedSlice S256x1 ![0, 0] (transpose S256x4 [1, 0] f transposes_S4x256_p1_0_S256x4) slices_S256x4_o0_0_S256x1) broadcasts_S256x1_S256x256)

/-- The other coordinate's difference. -/
def diff1 (f : FVec F S4x256 .f32) : FVec F S256x256 .f32 :=
  subf (broadcastTo S256x256 (extractStridedSlice S1x256 ![1, 0] f slices_S4x256_o1_0_S1x256) broadcasts_S1x256_S256x256)
    (broadcastTo S256x256 (extractStridedSlice S256x1 ![0, 1] (transpose S256x4 [1, 0] f transposes_S4x256_p1_0_S256x4) slices_S256x4_o0_1_S256x1) broadcasts_S256x1_S256x256)

/-- The mask value, at every entry. -/
def big : FVec F S256x256 .f32 := broadcast S256x256 (Named.named κ "big" 0x7149F2CA#32)

/-- The distances between nodes, the diagonal masked. -/
def dist (f : FVec F S4x256 .f32) : FVec F S256x256 .f32 :=
  select eye big (sqrt (addf (mulf (diff0 f) (diff0 f)) (mulf (diff1 f) (diff1 f))))

/-- Every node's features embedded. -/
def emb (w : Vec F S4x8 .f32) (f : FVec F S4x256 .f32) : FVec F S8x256 .f32 :=
  matmul dot_S8x4_S4x256_S8x256_1_0_0_1_n_n none (transpose S8x4 [1, 0] w transposes_S4x8_p1_0_S8x4) f
    (constant S8x256 .f32 0x00000000#32)

/-- Every column's least entry, spread down the column. -/
def colMin (y : FVec F S256x256 .f32) : FVec F S256x256 .f32 :=
  broadcastTo S256x256 (shapeCast S1x256 (multiReduction .minimumf [0] S256 y 0x7F800000#32 reduces_S256x256_S256 (.inl rfl) rfl)
    shapeCasts_S256_S1x256) broadcasts_S1x256_S256x256

/-- The entry is the first least one of its column. -/
def hit (y : FVec F S256x256 .f32) : IVec S256x256 1 :=
  cmpf .oeq (rowNo (F := F)) (colMin (select (cmpf .oeq y (colMin y)) (rowNo (F := F)) (broadcast S256x256 (Scalar.ofBits .f32 0x43800000#32))))

/-- The first least entry of every column masked. -/
def next (y : FVec F S256x256 .f32) : FVec F S256x256 .f32 := select (hit y) big y

/-- The embedding at every column's first least row, less the column's own. -/
def gap (e : FVec F S8x256 .f32) (y : FVec F S256x256 .f32) : FVec F S8x256 .f32 :=
  subf (matmul dot_S8x256_S256x256_S8x256_1_0_0_1_n_n none e (sitofp .f32 (extui 32 (hit y) natLt_1_32))
    (constant S8x256 .f32 0x00000000#32)) e

/-- The four neighbours' embeddings stacked and rectified. -/
def feed (e : FVec F S8x256 .f32) (y : FVec F S256x256 .f32) : FVec F S32x256 .bf16 :=
  truncf .bf16 (maximumf (concatenate S32x256 0
    [⟨S8x256, gap e y⟩, ⟨S8x256, gap e (next y)⟩, ⟨S8x256, gap e (next (next y))⟩, ⟨S8x256, gap e (next (next (next y)))⟩]
    concatenates_S8x256_S8x256_S8x256_S8x256_S32x256_d0) (broadcast S32x256 (Scalar.ofBits .f32 0x00000000#32))) bitsLt_bf16_f32

/-- The logistic function written through the hyperbolic tangent. -/
def sigm (x : FVec F S256x256 .f32) : FVec F S256x256 .f32 :=
  mulf (broadcast S256x256 (Scalar.ofBits .f32 0x3F000000#32)) (addf (broadcast S256x256 (Scalar.ofBits .f32 0x3F800000#32))
    (tanh (mulf (broadcast S256x256 (Scalar.ofBits .f32 0x3F000000#32)) x)))

/-- One gate's pre-activation, from a slice of the input weights. -/
def pre (wi : FVec F S256x32 .bf16) (x : FVec F S32x256 .bf16) : FVec F S256x256 .f32 :=
  matmul dot_S256x32_S32x256_S256x256_1_0_0_1_n_n none wi x (constant S256x256 .f32 0x00000000#32)

/-- The cell's hidden output: output gate times tanh of input gate times candidate. -/
def hidden (wi : FVec F S1024x32 .bf16) (x : FVec F S32x256 .bf16) : FVec F S256x256 .f32 :=
  mulf (sigm (pre (extractStridedSlice S256x32 ![768, 0] wi slices_S1024x32_o768_0_S256x32) x))
    (tanh (mulf (sigm (pre (extractStridedSlice S256x32 ![0, 0] wi slices_S1024x32_o0_0_S256x32) x))
      (tanh (pre (extractStridedSlice S256x32 ![512, 0] wi slices_S1024x32_o512_0_S256x32) x))))

/-- The scene's result, one row per node. -/
def result (wi : Vec F S1024x32 .f32) (wo : Vec F S32x256 .f32) (x : FVec F S32x256 .bf16) : FVec F S256x32 .f32 :=
  transpose S256x32 [1, 0] (matmul dot_S32x256_S256x256_S32x256_1_0_0_1_n_n none (truncf .bf16 wo bitsLt_bf16_f32)
    (truncf .bf16 (hidden (truncf .bf16 wi bitsLt_bf16_f32) x) bitsLt_bf16_f32)
    (constant S32x256 .f32 0x00000000#32)) transposes_S32x256_p1_0_S256x32

/-- One scene from its four rows of coordinates. -/
def scene (w : Vec F S4x8 .f32) (wi : Vec F S1024x32 .f32) (wo : Vec F S32x256 .f32) (v : Vec F S1x4x256 .f32) : FVec F S256x32 .f32 :=
  result wi wo (feed (emb w (feats v)) (dist (feats v)))

/-- Each scene's coordinates lie inside the block that is loaded. -/
theorem inb_load (s : Fin 32) (a : Fin 3) : (![s.val, 0, 0] : Fin 3 → Nat) a + S1x4x256.size a ≤ S32x4x256.size a := by
  have := s.isLt
  fin_cases a <;> simp <;> omega

/-- Each scene's rows lie inside the block that is stored. -/
theorem inb_store (s : Fin 32) (a : Fin 2) : (![256 * s.val, 0] : Fin 2 → Nat) a + S256x32.size a ≤ S8192x32.size a := by
  have := s.isLt
  fin_cases a <;> simp <;> omega

/-- The rows of scene `s` in the input block. -/
abbrev loadRect (s : Fin 32) : Rect S32x4x256 := Rect.unit (s := S32x4x256) ![s.val, 0, 0] S1x4x256.size (inb_load s)

/-- The band of scene `s` in the output block. -/
abbrev storeRect (s : Fin 32) : Rect S8192x32 := Rect.unit (s := S8192x32) ![256 * s.val, 0] S256x32.size (inb_store s)

set_option maxHeartbeats 4000000 in
/-- The body's output block: band `s` holds scene `s`, for each of the thirty-two. -/
theorem out_eq (x0 : Vec F S32x4x256 .f32) (x1 : Vec F S4x8 .f32) (x2 : Vec F S1024x32 .f32) (x3 : Vec F S32x256 .f32) :
    out0_4 x0 x1 x2 x3 = View.canon (List.ofFn fun k : Fin 32 =>
      (⟨storeRect k.rev, scene (View.ld x1 r0_0) (View.ld x2 r0_1) (View.ld x3 r0_2) (View.ld x0 (loadRect k.rev))⟩ :
        View.Piece (Elt F) S8192x32 .f32)) := by
  unfold out0_4
  refine congrArg View.canon ?_
  simp only [List.ofFn_succ, List.ofFn_zero]
  rfl

end Cert.KernelIdeal.Scene

end
-- ==== Proof.KernelArray.lean ====
/- The kernel's result array, row by row: the row of scene `b` and node `n` is that node's row of scene `b`'s result. -/
module

public import proofs.«01_k».proof.Proof.Scene
public import proofs.«01_k».proof.Proof.Gen.KernelIdeal.Value
public import Idealize.ShloMosaic.Lib.Pointwise

@[expose] public section

set_option maxRecDepth 16384

noncomputable section

namespace Cert.KernelIdeal.Scene

open Cert.KernelIdeal Cert.KernelIdeal.Gen Idealize.ShloMosaic Idealize.ShloMosaic.TcCoe Idealize.SL.Sem Idealize.ShloMosaic.Pointwise
open Idealize.ShloMosaic.Pipeline (Dat)

variable {F : FTy → Type} [FloatOps F] [Named F]
variable (m : (ℓ : Loc nD τ sig) → Buf (Elt F) ℓ)

/-- Two bands of the output block share no row. -/
theorem storeRect_disjoint (k k' : Fin 32) (h : k ≠ k') : Disjoint (storeRect k.rev).set (storeRect k'.rev).set := by
  rw [Finset.disjoint_left]
  intro i hi hi'
  rw [Rect.mem_set_unit] at hi hi'
  have h0 : 256 * k.rev.val ≤ (i 0).val ∧ (i 0).val < 256 * k.rev.val + 256 := hi 0
  have h0' : 256 * k'.rev.val ≤ (i 0).val ∧ (i 0).val < 256 * k'.rev.val + 256 := hi' 0
  simp only [Fin.val_rev] at h0 h0'
  have : k.val ≠ k'.val := fun e => h (Fin.ext e)
  have := k.isLt
  have := k'.isLt
  omega

/-- The offset of a block that is the whole array. -/
theorem zero2 : (![0, 0] : Fin 2 → Nat) = fun _ => 0 := funext fun a => by fin_cases a <;> rfl

/-- The output block read in band `s`. -/
theorem out_band (x0 : Vec F S32x4x256 .f32) (x1 : Vec F S4x8 .f32) (x2 : Vec F S1024x32 .f32) (x3 : Vec F S32x256 .f32)
    (s : Fin 32) (x : S256x32.Idx) :
    out0_4 x0 x1 x2 x3 ((storeRect s).emb x) = scene x1 x2 x3 (View.ld x0 (loadRect s)) x := by
  have h := View.canon_ofFn_emb_of_disjoint (Val := Elt F) (e := .f32) (fun k : Fin 32 => storeRect k.rev)
    (fun k => scene (View.ld x1 r0_0) (View.ld x2 r0_1) (View.ld x3 r0_2) (View.ld x0 (loadRect k.rev)))
    storeRect_disjoint
  have h' : ∀ k : Fin 32, ∀ x : S256x32.Idx, out0_4 x0 x1 x2 x3 ((storeRect k.rev).emb x)
      = scene x1 x2 x3 (View.ld x0 (loadRect k.rev)) x := fun k x => by
    rw [out_eq]
    refine (h k x).trans ?_
    rw [View.ld_unit_zero zero2, View.ld_unit_zero zero2, View.ld_unit_zero zero2]
  have := h' s.rev x
  rwa [Fin.rev_rev] at this

/-- The row of scene `b`, node `n`, in the result array. -/
def row (b : Fin 64) (n : Fin 256) : Fin 16384 := ⟨b.val * 256 + n.val, by have := b.isLt; have := n.isLt; omega⟩

/-- Scene `b`'s four rows of coordinates, as the region finds them. -/
def coords (c : Dev nD) (b : Fin 64) : Vec F S1x4x256 .f32 := fun i =>
  (V m c main_v2 : Vec F S64x4x256 .f32) (ix3 b (⟨(i 1).val, (i 1).isLt⟩ : Fin 4) (⟨(i 2).val, (i 2).isLt⟩ : Fin 256))

/-- Where each step's blocks lie: the result's and the coordinates' move with the step, the matrices' stay. -/
theorem offs : ∀ t : Fin grid0.N,
    (win0_4.index t 0 * win0_4.size 0 = t.val * 8192 ∧ win0_4.index t 1 * win0_4.size 1 = 0)
    ∧ (win0_0.index t 0 * win0_0.size 0 = t.val * 32 ∧ win0_0.index t 1 * win0_0.size 1 = 0 ∧ win0_0.index t 2 * win0_0.size 2 = 0)
    ∧ (win0_1.index t 0 * win0_1.size 0 = 0 ∧ win0_1.index t 1 * win0_1.size 1 = 0)
    ∧ (win0_2.index t 0 * win0_2.size 0 = 0 ∧ win0_2.index t 1 * win0_2.size 1 = 0)
    ∧ (win0_3.index t 0 * win0_3.size 0 = 0 ∧ win0_3.index t 1 * win0_3.size 1 = 0) := by
  decide +kernel

/-- Every step sees the whole embedding matrix. -/
theorem iblk1 (c : Dev nD) (t : Fin cfg0.N) : (iblk m c 1 t : Vec F S4x8 .f32) = m ((c : Thread nD τ).loc main_arg3) := by
  funext x
  refine Eq.trans ?_ (congrFun (V_main_arg3 m c) x)
  show V m c main_arg3 ((win0_1.rect t).emb x) = _
  refine congrArg (V m c main_arg3) (funext fun a => Fin.ext ?_)
  obtain ⟨-, -, ⟨h0, h1⟩, -, -⟩ := offs t
  match a with
  | ⟨0, _⟩ => show win0_1.index t 0 * win0_1.size 0 + 1 * (x 0).val = (x 0).val; omega
  | ⟨1, _⟩ => show win0_1.index t 1 * win0_1.size 1 + 1 * (x 1).val = (x 1).val; omega

/-- Every step sees the whole gate matrix. -/
theorem iblk2 (c : Dev nD) (t : Fin cfg0.N) : (iblk m c 2 t : Vec F S1024x32 .f32) = m ((c : Thread nD τ).loc main_arg5) := by
  funext x
  refine Eq.trans ?_ (congrFun (V_main_arg5 m c) x)
  show V m c main_arg5 ((win0_2.rect t).emb x) = _
  refine congrArg (V m c main_arg5) (funext fun a => Fin.ext ?_)
  obtain ⟨-, -, -, ⟨h0, h1⟩, -⟩ := offs t
  match a with
  | ⟨0, _⟩ => show win0_2.index t 0 * win0_2.size 0 + 1 * (x 0).val = (x 0).val; omega
  | ⟨1, _⟩ => show win0_2.index t 1 * win0_2.size 1 + 1 * (x 1).val = (x 1).val; omega

/-- Every step sees the whole output matrix. -/
theorem iblk3 (c : Dev nD) (t : Fin cfg0.N) : (iblk m c 3 t : Vec F S32x256 .f32) = m ((c : Thread nD τ).loc main_arg9) := by
  funext x
  refine Eq.trans ?_ (congrFun (V_main_arg9 m c) x)
  show V m c main_arg9 ((win0_3.rect t).emb x) = _
  refine congrArg (V m c main_arg9) (funext fun a => Fin.ext ?_)
  obtain ⟨-, -, -, -, ⟨h0, h1⟩⟩ := offs t
  match a with
  | ⟨0, _⟩ => show win0_3.index t 0 * win0_3.size 0 + 1 * (x 0).val = (x 0).val; omega
  | ⟨1, _⟩ => show win0_3.index t 1 * win0_3.size 1 + 1 * (x 1).val = (x 1).val; omega

/-- The rows of scene `s` in the input block of grid point `t` are those of scene `32 t + s`. -/
theorem load_coords (c : Dev nD) (t : Fin cfg0.N) (s : Fin 32) (b : Fin 64) (hb : b.val = 32 * t.val + s.val) :
    (View.ld (iblk m c 0 t : Vec F S32x4x256 .f32) (loadRect s) : Vec F S1x4x256 .f32) = coords m c b := by
  funext x
  show V m c main_v2 ((win0_0.rect t).emb ((loadRect s).emb x)) = V m c main_v2 (ix3 b _ _)
  refine congrArg (V m c main_v2) (funext fun a => Fin.ext ?_)
  obtain ⟨-, ⟨h0, h1, h2⟩, -⟩ := offs t
  match a with
  | ⟨0, _⟩ =>
    have hx : (x 0).val < 1 := (x 0).isLt
    show win0_0.index t 0 * win0_0.size 0 + 1 * (s.val + 1 * (x 0).val) = b.val; omega
  | ⟨1, _⟩ => show win0_0.index t 1 * win0_0.size 1 + 1 * (0 + 1 * (x 1).val) = (x 1).val; omega
  | ⟨2, _⟩ => show win0_0.index t 2 * win0_0.size 2 + 1 * (0 + 1 * (x 2).val) = (x 2).val; omega

/-- The result array at scene `b`, node `n`, column `o`. -/
theorem arr_at (c : Dev nD) (b : Fin 64) (n : Fin 256) (o : Fin 32) :
    (((dats m 0 c).arrAt 4 cfg0.N : Vec F S16384x32 .f32) (ix2 (row b n) o))
      = scene (m ((c : Thread nD τ).loc main_arg3)) (m ((c : Thread nD τ).loc main_arg5)) (m ((c : Thread nD τ).loc main_arg9))
          (coords m c b) (ix2 n o) := by
  have hb := b.isLt
  let t : Fin cfg0.N := ⟨b.val / 32, by have : cfg0.N = 2 := N_0; omega⟩
  let s : Fin 32 := ⟨b.val % 32, Nat.mod_lt _ (by decide)⟩
  have hbt : b.val = 32 * t.val + s.val := by show b.val = 32 * (b.val / 32) + b.val % 32; omega
  have h1 := (Value.blocks4 m c t (flush0_4 t)).trans (Value.flushed4 m c t)
  have h2 : (dats m 0 c).arrAt 4 cfg0.N ((win0_4.rect t).emb ((storeRect s).emb (ix2 n o)))
      = out0_4 (iblk m c 0 t) (iblk m c 1 t) (iblk m c 2 t) (iblk m c 3 t) ((storeRect s).emb (ix2 n o)) :=
    congrFun h1 ((storeRect s).emb (ix2 n o))
  rw [out_band, iblk1, iblk2, iblk3] at h2
  refine Eq.trans ?_ (h2.trans (congrArg (fun v => scene _ _ _ v (ix2 n o)) (load_coords m c t s b hbt)))
  refine congrArg ((dats m 0 c).arrAt 4 cfg0.N) (funext fun a => Fin.ext ?_)
  obtain ⟨⟨h0, h1⟩, -⟩ := offs t
  match a with
  | ⟨0, _⟩ => show b.val * 256 + n.val = win0_4.index t 0 * win0_4.size 0 + 1 * (256 * s.val + 1 * n.val); omega
  | ⟨1, _⟩ => show o.val = win0_4.index t 1 * win0_4.size 1 + 1 * (0 + 1 * o.val); omega

/-- Rows of coordinates: the current position, then the previous one. -/
theorem V_coords (c : Dev nD) : V m c main_v2 = concatenate S64x4x256 1
    [⟨S64x2x256, transpose S64x2x256 [0, 2, 1] (m ((c : Thread nD τ).loc main_arg2)) transposes_S64x256x2_S64x2x256_0_2_1⟩,
     ⟨S64x2x256, transpose S64x2x256 [0, 2, 1] (m ((c : Thread nD τ).loc main_arg1)) transposes_S64x256x2_S64x2x256_0_2_1⟩]
    concatenates_S64x2x256_S64x2x256_S64x4x256_d1 := by
  show StableHlo.after hostOps0 (fun b => m (c, b)) (Proc.devRef .tc main_v2) = _
  simp only [hostOps0]
  after_results_simp
  rfl

end Cert.KernelIdeal.Scene

end
-- ==== Proof.Pick.lean ====
/- Picking the least entries of a column one after the other, the picked entry masked with `⊤` each time: the picks
   are the first positions of a stable sort of the column. -/
module

public import Idealize.ShloMosaic.Lib.SortPrefix
public import Idealize.ShloMosaic.PureOps.Ideal

@[expose] public section

noncomputable section

namespace Cert.Pick

open Idealize.ShloMosaic

variable {n : Nat}

/-- `p` holds the least entry of `y`, and is the first position that does. -/
def First (y : Fin n → EReal) (p : Fin n) : Prop := ∀ r, y p < y r ∨ (y p = y r ∧ p ≤ r)

/-- Some position holds the least entry, with none as small before it. -/
theorem exists_first [NeZero n] (y : Fin n → EReal) : ∃ p, First y p := by
  obtain ⟨p, hp⟩ := Finite.exists_min fun r : Fin n => toLex (y r, r)
  exact ⟨p, fun r => (Prod.Lex.toLex_le_toLex).mp (hp r)⟩

/-- The position of the first least entry. -/
def pick [NeZero n] (y : Fin n → EReal) : Fin n := (exists_first y).choose

/-- `pick` is the first position of the least entry. -/
theorem pick_first [NeZero n] (y : Fin n → EReal) : First y (pick y) := (exists_first y).choose_spec

/-- No entry is below the picked one. -/
theorem pick_le [NeZero n] (y : Fin n → EReal) (r : Fin n) : y (pick y) ≤ y r := by
  rcases pick_first y r with h | h
  · exact h.le
  · exact h.1.le

/-- The column with its first least entry masked. -/
def mask [NeZero n] (y : Fin n → EReal) : Fin n → EReal := fun r => if r = pick y then ⊤ else y r

/-- The column after `k` rounds. -/
def rounds [NeZero n] (y : Fin n → EReal) : Nat → Fin n → EReal
  | 0 => y
  | k + 1 => mask (rounds y k)

/-- The position picked in round `k`. -/
def nth [NeZero n] (y : Fin n → EReal) (k : Nat) : Fin n := pick (rounds y k)

/-- A position not picked before keeps its entry. -/
theorem rounds_of_not_picked [NeZero n] (y : Fin n → EReal) (k : Nat) (r : Fin n) (h : ∀ i < k, nth y i ≠ r) :
    rounds y k r = y r := by
  induction k with
  | zero => rfl
  | succ k ih =>
    have hk : r ≠ pick (rounds y k) := fun e => h k (Nat.lt_succ_self k) e.symm
    simp only [rounds, mask, if_neg hk]
    exact ih fun i hi => h i (Nat.lt_succ_of_lt hi)

/-- A position picked before is masked. -/
theorem rounds_of_picked [NeZero n] (y : Fin n → EReal) (k i : Nat) (hi : i < k) : rounds y k (nth y i) = ⊤ := by
  induction k with
  | zero => omega
  | succ k ih =>
    simp only [rounds, mask]
    split
    · rfl
    · rename_i hne
      rcases Nat.lt_succ_iff_lt_or_eq.mp hi with h | h
      · exact ih h
      · subst h; exact absurd rfl hne

section Enough

variable [NeZero n] (y : Fin n → EReal) (K : Nat) (hK : K ≤ (Finset.univ.filter fun r => y r < ⊤).card)
include hK

/-- While fewer than all the unmasked entries are picked, the pick is an unmasked one. -/
theorem rounds_nth_lt (k : Nat) (hk : k < K) : rounds y k (nth y k) < ⊤ := by
  have hcard : ((Finset.range k).image (nth y)).card < (Finset.univ.filter fun r => y r < ⊤).card :=
    lt_of_le_of_lt Finset.card_image_le (by rw [Finset.card_range]; omega)
  obtain ⟨r, hr, hn⟩ := Finset.exists_mem_notMem_of_card_lt_card hcard
  have hn' : ∀ i < k, nth y i ≠ r := fun i hi e => hn (Finset.mem_image.mpr ⟨i, Finset.mem_range.mpr hi, e⟩)
  refine lt_of_le_of_lt (pick_le (rounds y k) r) ?_
  rw [rounds_of_not_picked y k r hn']
  exact (Finset.mem_filter.mp hr).2

/-- Different rounds pick different positions. -/
theorem nth_ne (i k : Nat) (hk : k < K) (hi : i < k) : nth y i ≠ nth y k := fun e => by
  have h := rounds_nth_lt y K hK k hk
  rw [← e, rounds_of_picked y k i hi] at h
  exact lt_irrefl _ h

/-- The entry picked in a round is still the original one. -/
theorem rounds_nth (k : Nat) (hk : k < K) : rounds y k (nth y k) = y (nth y k) :=
  rounds_of_not_picked y k _ fun i hi => nth_ne y K hK i k hk hi

/-- The picked entry is unmasked. -/
theorem nth_lt (k : Nat) (hk : k < K) : y (nth y k) < ⊤ := by
  rw [← rounds_nth y K hK k hk]; exact rounds_nth_lt y K hK k hk

/-- A position not picked before round `k` does not come before round `k`'s. -/
theorem nth_before (k : Nat) (hk : k < K) (r : Fin n) (h : ∀ i < k, nth y i ≠ r) :
    y (nth y k) < y r ∨ (y (nth y k) = y r ∧ nth y k ≤ r) := by
  have e := pick_first (rounds y k) r
  rw [rounds_of_not_picked y k r h] at e
  have e2 := rounds_nth y K hK k hk
  unfold nth at e2 ⊢
  rwa [e2] at e

end Enough

/-! ## The stable sort by descending key -/

/-- Insertion depends on the order only through the comparisons that it makes. -/
theorem insertBefore_eq {ι : Type} (R R' : ι → ι → Bool) (a : ι) (m : List ι) (h : ∀ b ∈ m, R b a = R' b a) :
    insertBefore R a m = insertBefore R' a m := insertBefore_congr R R' a m h

/-- On a list in increasing order, the sort by a key alone is the sort by the key and then the position. -/
theorem stableSort_key_position (key : Fin n → EReal) (l : List (Fin n)) (hl : l.Pairwise (· < ·)) :
    stableSort (fun a b => decide (key b < key a)) l
      = stableSort (fun a b => decide (key b < key a) || (decide (key a = key b) && decide (a < b))) l := by
  induction l with
  | nil => rfl
  | cons a l ih =>
    rw [List.pairwise_cons] at hl
    unfold stableSort
    rw [ih hl.2]
    refine insertBefore_congr _ _ a _ fun b hb => ?_
    have hb' := hl.1 b ((perm_stableSort _ l).mem_iff.mp hb)
    have : decide (b < a) = false := by simp only [decide_eq_false_iff_not]; exact fun h => absurd (h.trans hb') (lt_irrefl _)
    rw [this]; simp

/-- Sorting by the key alone, stably, is sorting by the key and then the position. -/
theorem sortedFrom_key_position (key : Fin n → EReal) :
    sortedFrom (fun a b => decide (key b < key a))
      = sortedFrom (fun a b => decide (key b < key a) || (decide (key a = key b) && decide (a < b))) := by
  funext k
  have h : sortPositions n (fun a b => decide (key b < key a))
      = sortPositions n (fun a b => decide (key b < key a) || (decide (key a = key b) && decide (a < b))) :=
    stableSort_key_position key _ (List.pairwise_lt_finRange n)
  unfold sortedFrom
  rw [List.get_of_eq h]
  rfl

/-- The first `K` positions of the stable sort, greatest key first, of the keys `-(y r)` over the positions other than
    `c`, are the first `K` picks of `y`, when `y` is masked at `c` alone. -/
theorem sortedFrom_eq_nth {N K : Nat} (hKN : K ≤ N) (c : Fin (N + 1)) (y : Fin (N + 1) → EReal) (hc : y c = ⊤)
    (hy : ∀ r, r ≠ c → y r < ⊤) (key : Fin N → EReal) (hkey : ∀ j, key j = -(y (c.succAbove j))) (i : Fin K) :
    c.succAbove (sortedFrom (fun a b => decide (key b < key a)) (i.castLE hKN)) = nth y i.val := by
  have hcard : K ≤ (Finset.univ.filter fun r => y r < ⊤).card := by
    have : (Finset.univ.filter fun r => y r < ⊤) = Finset.univ.erase c := by
      ext r
      simp only [Finset.mem_filter, Finset.mem_univ, true_and, Finset.mem_erase, and_true]
      exact ⟨fun h e => by rw [e, hc] at h; exact lt_irrefl _ h, hy r⟩
    rw [this, Finset.card_erase_of_mem (Finset.mem_univ c), Finset.card_univ, Fintype.card_fin]
    omega
  have hne : ∀ k, k < K → nth y k ≠ c := fun k hk e => by
    have := nth_lt y K hcard k hk
    rw [e, hc] at this; exact lt_irrefl _ this
  choose σ hσ using fun k : Fin K => Fin.exists_succAbove_eq (hne k.val k.isLt)
  have hinj : Function.Injective σ := fun a b hab => by
    have e : nth y a.val = nth y b.val := by rw [← hσ a, ← hσ b, hab]
    rcases lt_trichotomy a.val b.val with h | h | h
    · exact absurd e (nth_ne y K hcard _ _ b.isLt h)
    · exact Fin.ext h
    · exact absurd e.symm (nth_ne y K hcard _ _ a.isLt h)
  have hbef : ∀ (i : Fin K) (p : Fin N), (∀ j, j < i → σ j ≠ p) →
      (decide (key (σ i) < key p) || (decide (key p = key (σ i)) && decide (p < σ i))) = false := by
    intro i p hp
    have h := nth_before y K hcard i.val i.isLt (c.succAbove p) fun k hk e => by
      refine hp ⟨k, hk.trans i.isLt⟩ hk (Fin.succAbove_right_injective (p := c) ?_)
      rw [hσ]; exact e
    rw [← hσ i, Fin.succAbove_le_succAbove_iff] at h
    rw [hkey, hkey]
    simp only [Bool.or_eq_false_iff, Bool.and_eq_false_imp, decide_eq_false_iff_not, decide_eq_true_eq, EReal.neg_lt_neg_iff, neg_inj, not_lt]
    rcases h with h | ⟨h, h'⟩
    · exact ⟨h.le, fun e => absurd e h.ne'⟩
    · exact ⟨h.le, fun _ => h'⟩
  rw [sortedFrom_key_position]
  have hB := StrictTotalBefore.of_key_then_position (fun a b : EReal => decide (b < a)) key (fun a => by simp)
    (fun a b c hab hbc => by simp only [decide_eq_true_eq] at *; exact hbc.trans hab)
    (fun a b => by simp only [decide_eq_true_eq]; rcases lt_trichotomy a b with h | h | h; exacts [Or.inr (Or.inr h), Or.inr (Or.inl h), Or.inl h])
  rw [hB.sortedFrom_eq_of_prefix hKN σ hinj (fun i j hij => hbef i (σ j) fun k hk e => by
      have := hinj e; subst this; exact absurd (hk.trans hij) (lt_irrefl _))
    (fun i p hp => hbef i p fun j _ => hp j) i, hσ i]

/-! ## The pick as two minima -/

/-- A fold of minimum from `⊤` is the entry at a position where it is least. -/
theorem fold_min_eq (f : Fin n → EReal) (p : Fin n) (h : ∀ r, f p ≤ f r) :
    Finset.univ.fold min ⊤ f = f p :=
  le_antisymm ((Finset.fold_min_le _).mpr (Or.inr ⟨p, Finset.mem_univ p, le_rfl⟩))
    ((Finset.le_fold_min _).mpr ⟨le_top, fun r _ => h r⟩)

/-- The least row number among those that hold the column's least entry, `N` standing in at the others, is the pick's. -/
theorem fold_min_rows [NeZero n] (y : Fin n → EReal) :
    Finset.univ.fold min ⊤ (fun r : Fin n => if y r = Finset.univ.fold min ⊤ y then ((r.val : ℝ) : EReal) else ((n : ℝ) : EReal))
      = (((pick y).val : ℝ) : EReal) := by
  have hm := fold_min_eq y (pick y) (pick_le y)
  rw [hm, fold_min_eq _ (pick y) ?_, if_pos rfl]
  intro r
  rw [if_pos rfl]
  split
  · rename_i e
    rcases pick_first y r with h | h
    · exact absurd e h.ne'
    · exact EReal.coe_le_coe_iff.mpr (by exact_mod_cast h.2)
  · exact EReal.coe_le_coe_iff.mpr (by exact_mod_cast (pick y).isLt.le)

end Cert.Pick

end
-- ==== Proof.SceneAt.lean ====
/- One scene of the kernel, read entry by entry over the extended reals. -/
module

public import proofs.«01_k».proof.Proof.Scene
public import proofs.«01_k».proof.Proof.Pick
public import Idealize.ShloMosaic.Lib.Pointwise

@[expose] public section

set_option maxRecDepth 16384

noncomputable section

namespace Cert.KernelIdeal.Scene

open Cert.KernelIdeal Cert.KernelIdeal.Gen Idealize.ShloMosaic Idealize.ShloMosaic.Pointwise

/-- A row's number, as a word read signed. -/
theorem toInt_row (r : Fin 256) : (BitVec.ofNat 32 r.val).toInt = (r.val : Int) := by
  have := r.isLt
  rw [BitVec.toInt_eq_toNat_of_lt (by rw [BitVec.toNat_ofNat]; omega), BitVec.toNat_ofNat, Nat.mod_eq_of_lt (by omega)]

/-- A choice by a truth value. -/
theorem select_eq_ite {α : Type} (c : BitVec 1) (a b : α) : Scalar.select c a b = if c = 1 then a else b := rfl

/-- `rowNo` holds each row's number. -/
theorem rowNo_at (r n : Fin 256) : rowNo (F := Ideal) (ix2 r n) = ((r.val : ℝ) : EReal) := by
  pointwise [rowNo]
  show (((BitVec.ofNat 32 r.val).toInt : ℝ) : EReal) = _
  rw [toInt_row]; rfl

/-- The mask is plus infinity. -/
theorem big_at (r n : Fin 256) : big (F := Ideal) (ix2 r n) = (⊤ : EReal) :=
  IdealRules.named_const.ideal_named_scalar _ _ _ _ rfl

/-- `eye` holds on the diagonal. -/
theorem eye_at (r n : Fin 256) : eye (ix2 r n) = if r = n then 1#1 else 0#1 := by
  pointwise [eye]
  show BitVec.ofBool (BitVec.ofNat 32 r.val == BitVec.ofNat 32 n.val) = _
  by_cases h : r = n
  · subst h; simp
  · have : BitVec.ofNat 32 r.val ≠ BitVec.ofNat 32 n.val := fun e => h (Fin.ext (by
      have e' := congrArg BitVec.toInt e
      rw [toInt_row, toInt_row] at e'; exact_mod_cast e'))
    rw [if_neg h, beq_false_of_ne this]; rfl

/-- The word of plus infinity. -/
theorem inf_word : Ideal.ofBits .f32 0x7F800000#32 = ⊤ := by simp [Ideal.ofBits, Ideal.ieee]

/-- The word of 256. -/
theorem word_256 : Ideal.ofBits .f32 0x43800000#32 = ((256 : ℝ) : EReal) := by
  simp [Ideal.ofBits, Ideal.ieee, -EReal.coe_mul]; norm_num

/-- The word of one half. -/
theorem word_half : Ideal.ofBits .f32 0x3F000000#32 = ((1 / 2 : ℝ) : EReal) := by
  simp [Ideal.ofBits, Ideal.ieee, -EReal.coe_mul]; norm_num

/-- The least entry of a column is a fold of minima from plus infinity. -/
theorem colMin_at (y : FVec Ideal S256x256 .f32) (r n : Fin 256) :
    colMin y (ix2 r n) = Finset.univ.fold min ⊤ fun k : Fin 256 => (y (ix2 k n) : EReal) := by
  pointwise [colMin]
  exact congrArg (fun z => Finset.univ.fold min z fun k : Fin 256 => (y (ix2 k n) : EReal)) inf_word

/-- A comparison of arrays compares entry by entry. -/
theorem cmpf_at {s : Shape} {φ : FTy} (p : CmpFPredicate) (x y : FVec Ideal s φ) (i : s.Idx) :
    cmpf p x y i = Ideal.cmp p (x i) (y i) := rfl

/-- A column's entries. -/
abbrev col (y : FVec Ideal S256x256 .f32) (n : Fin 256) : Fin 256 → EReal := fun k => y (ix2 k n)

/-- The hit of a column is its first least entry's row. -/
theorem hit_at (y : FVec Ideal S256x256 .f32) (r n : Fin 256) :
    hit y (ix2 r n) = if r = Pick.pick (col y n) then 1#1 else 0#1 := by
  unfold hit
  rw [cmpf_at, rowNo_at, colMin_at]
  have e : (fun k : Fin 256 => ((select (cmpf .oeq y (colMin y)) (rowNo (F := Ideal))
        (broadcast S256x256 (Scalar.ofBits .f32 0x43800000#32)) : FVec Ideal S256x256 .f32) (ix2 k n) : EReal))
      = fun k : Fin 256 => if col y n k = Finset.univ.fold min ⊤ (col y n) then ((k.val : ℝ) : EReal) else (((256 : ℕ) : ℝ) : EReal) := by
    funext k
    show Scalar.select (Ideal.cmp .oeq (y (ix2 k n)) (colMin y (ix2 k n))) (rowNo (F := Ideal) (ix2 k n)) (Ideal.ofBits .f32 0x43800000#32) = _
    rw [rowNo_at, colMin_at, word_256]
    rw [select_eq_ite]
    unfold Ideal.cmp
    by_cases h : y (ix2 k n) = Finset.univ.fold min ⊤ (col y n)
    · rw [decide_eq_true h, if_pos h]; rfl
    · rw [decide_eq_false h, if_neg h]
      show ((256 : ℝ) : EReal) = _
      norm_num
  rw [e, Pick.fold_min_rows]
  by_cases h : r = Pick.pick (col y n)
  · rw [if_pos h, ← h]; simp [Ideal.cmp]
  · have : ((r.val : ℝ) : EReal) ≠ (((Pick.pick (col y n)).val : ℝ) : EReal) := fun e' => h (Fin.ext (by exact_mod_cast e'))
    rw [if_neg h]; simp only [Ideal.cmp, this, decide_false]; rfl

/-- Masking the hits is one round of picking. -/
theorem next_col (y : FVec Ideal S256x256 .f32) (n : Fin 256) : col (next y) n = Pick.mask (col y n) := by
  funext r
  show Scalar.select (hit y (ix2 r n)) (big (F := Ideal) (ix2 r n)) (y (ix2 r n)) = _
  rw [hit_at, big_at]
  unfold Pick.mask
  split <;> simp [select_eq_ite]

/-- The embedding at the picked row, less the column's own. -/
theorem gap_at (e : FVec Ideal S8x256 .f32) (y : FVec Ideal S256x256 .f32) (k : Fin 8) (n : Fin 256) :
    gap e y (ix2 k n) = (e (ix2 k (Pick.pick (col y n))) - e (ix2 k n) : EReal) := by
  pointwise [gap]
  rw [Finset.sum_eq_single (Pick.pick (col y n))]
  · rw [hit_at, if_pos rfl]
    show e _ * (((BitVec.setWidth 32 1#1).toInt : ℝ) : EReal) - _ = _
    simp
  · intro x _ hx
    rw [hit_at, if_neg hx]
    show e _ * (((BitVec.setWidth 32 0#1).toInt : ℝ) : EReal) = _
    simp
  · exact fun h => absurd (Finset.mem_univ _) h

/-- The column after `k` rounds, as the program masks it. -/
def masked (y : FVec Ideal S256x256 .f32) : Nat → FVec Ideal S256x256 .f32
  | 0 => y
  | k + 1 => next (masked y k)

/-- The columns after `k` rounds of masking. -/
theorem masked_col (y : FVec Ideal S256x256 .f32) (n : Fin 256) (k : Nat) : col (masked y k) n = Pick.rounds (col y n) k := by
  induction k with
  | zero => rfl
  | succ k ih => show col (next (masked y k)) n = _; rw [next_col, ih]; rfl

/-- The features stacked: row `8 k + j` is the `k`-th neighbour's embedding `j` less the node's own, rectified. -/
theorem feed_at (e : FVec Ideal S8x256 .f32) (y : FVec Ideal S256x256 .f32) (q : Fin 32) (n : Fin 256) :
    feed e y (ix2 q n) = (max (e (ix2 ⟨q.val % 8, Nat.mod_lt _ (by decide)⟩ (Pick.nth (col y n) (q.val / 8)))
      - e (ix2 ⟨q.val % 8, Nat.mod_lt _ (by decide)⟩ n)) 0 : EReal) := by
  have h : ∀ (k : Nat) (j : Fin 8), gap e (masked y k) (ix2 j n) = (e (ix2 j (Pick.nth (col y n) k)) - e (ix2 j n) : EReal) := fun k j => by
    rw [gap_at, masked_col]; rfl
  have h0 := h 0
  have h1 := h 1
  have h2 := h 2
  have h3 := h 3
  simp only [masked] at h0 h1 h2 h3
  pointwise [feed]
  refine congrArg (max · 0) ?_
  have hq := q.isLt
  have hm : ∀ (d : Nat) (hd : d < 8) (k : Nat), q.val = 8 * k + d →
      (e (ix2 ⟨d, hd⟩ (Pick.nth (col y n) k)) - e (ix2 ⟨d, hd⟩ n) : EReal)
        = e (ix2 ⟨q.val % 8, Nat.mod_lt _ (by decide)⟩ (Pick.nth (col y n) (q.val / 8))) - e (ix2 ⟨q.val % 8, Nat.mod_lt _ (by decide)⟩ n) := by
    intro d hd k hk
    obtain rfl : k = q.val / 8 := by omega
    obtain rfl : d = q.val % 8 := by omega
    rfl
  split
  · rw [h0]; exact hm _ _ _ (by omega)
  · split
    · rw [h1]; exact hm _ _ _ (by omega)
    · split
      · rw [h2]; exact hm _ _ _ (by omega)
      · rw [h3]; exact hm _ _ _ (by omega)

/-- A node's features: its position, then its velocity. -/
theorem feats_at (v : Vec Ideal S1x4x256 .f32) (a : Fin 4) (n : Fin 256) :
    feats v (ix2 a n) = if a.val < 2 then v (ix3 0 a n) else (v (ix3 0 ⟨a.val - 2, by have := a.isLt; omega⟩ n) - v (ix3 0 a n) : EReal) := by
  pointwise [feats]
  split
  · rfl
  · rename_i h
    have : (⟨2 + (a.val - 2), by have := a.isLt; omega⟩ : Fin 4) = a := Fin.ext (by show 2 + (a.val - 2) = a.val; omega)
    rw [this]

/-- A node's embedded features. -/
theorem emb_at (w : Vec Ideal S4x8 .f32) (f : FVec Ideal S4x256 .f32) (k : Fin 8) (n : Fin 256) :
    emb w f (ix2 k n) = ∑ a : Fin 4, (w (ix2 a k) * f (ix2 a n) : EReal) := by
  pointwise [emb]

/-- The distance between two nodes, plus infinity on the diagonal. -/
theorem dist_at (f : FVec Ideal S4x256 .f32) (r n : Fin 256) :
    dist f (ix2 r n) = if r = n then ⊤ else Ideal.sqrt
      ((f (ix2 0 n) - f (ix2 0 r)) * (f (ix2 0 n) - f (ix2 0 r)) + (f (ix2 1 n) - f (ix2 1 r)) * (f (ix2 1 n) - f (ix2 1 r)) : EReal) := by
  have h := eye_at r n
  pointwise [dist, diff0, diff1, eye] at h ⊢
  rw [h, big_at, select_eq_ite]
  split <;> simp

/-- One row of the gates' pre-activations. -/
def act (wi : Vec Ideal S1024x32 .f32) (x : Fin 32 → EReal) (g : Fin 1024) : EReal := ∑ q : Fin 32, wi (ix2 g q) * x q

/-- The logistic function through the hyperbolic tangent. -/
def sig (x : EReal) : EReal := ((1 / 2 : ℝ) : EReal) * (1 + Ideal.tanh (((1 / 2 : ℝ) : EReal) * x))

/-- One entry of the cell's hidden output. -/
def cell (wi : Vec Ideal S1024x32 .f32) (x : Fin 32 → EReal) (j : Fin 256) : EReal :=
  sig (act wi x ⟨768 + j.val, by have := j.isLt; omega⟩)
    * Ideal.tanh (sig (act wi x ⟨j.val, by have := j.isLt; omega⟩) * Ideal.tanh (act wi x ⟨512 + j.val, by have := j.isLt; omega⟩))

/-- A scene's result, entry by entry. -/
theorem result_at (wi : Vec Ideal S1024x32 .f32) (wo : Vec Ideal S32x256 .f32) (x : FVec Ideal S32x256 .bf16) (n : Fin 256) (o : Fin 32) :
    result wi wo x (ix2 n o) = ∑ j : Fin 256, (wo (ix2 o j) * cell wi (fun q => x (ix2 q n)) j : EReal) := by
  pointwise [result, hidden, pre, sigm, cell, sig, act]
  rw [word_half]

end Cert.KernelIdeal.Scene

end
-- ==== Proof.Sigmoid.lean ====
/- The two ways of writing the logistic function agree on every extended real. -/
module

public import proofs.«01_k».proof.Proof.SceneAt

@[expose] public section

noncomputable section

namespace Cert.KernelIdeal.Scene

open Idealize.ShloMosaic

/-- The two spellings agree on the reals. -/
theorem half_tanh (x : ℝ) : 1 / 2 * (1 + Real.tanh (1 / 2 * x)) = (1 + Real.exp (-x))⁻¹ := by
  have ha := Real.exp_pos (1 / 2 * x)
  have hb := Real.exp_pos (-(1 / 2 * x))
  have hab : Real.exp (1 / 2 * x) * Real.exp (-(1 / 2 * x)) = 1 := by rw [← Real.exp_add, add_neg_cancel, Real.exp_zero]
  have hx : Real.exp (-x) = Real.exp (-(1 / 2 * x)) * Real.exp (-(1 / 2 * x)) := by rw [← Real.exp_add]; congr 1; ring
  rw [Real.tanh_eq_sinh_div_cosh, Real.sinh_eq, Real.cosh_eq, hx]
  generalize Real.exp (1 / 2 * x) = a at *
  generalize Real.exp (-(1 / 2 * x)) = b at *
  have hs : a + b ≠ 0 := by positivity
  have hq : 1 + b * b ≠ 0 := by positivity
  have h2 : (a - b) / 2 / ((a + b) / 2) = (a - b) / (a + b) := by field_simp
  have h3 : 1 / 2 * (1 + (a - b) / (a + b)) = a / (a + b) := by field_simp; ring
  rw [h2, h3, inv_eq_one_div, div_eq_div_iff hs hq]
  linear_combination b * hab

/-- `(1 + tanh (x / 2)) / 2` is `1 / (1 + exp (-x))`. -/
theorem sig_eq (x : EReal) : sig x = Ideal.logistic x := by
  unfold sig
  induction x with
  | bot =>
    rw [EReal.coe_mul_bot_of_pos (by norm_num), Ideal.tanh_bot, Ideal.logistic_bot, ← EReal.coe_one, ← EReal.coe_neg, ← EReal.coe_add]
    simp
  | top =>
    rw [EReal.coe_mul_top_of_pos (by norm_num), Ideal.tanh_top, Ideal.logistic_top, ← EReal.coe_one, ← EReal.coe_add, ← EReal.coe_mul]
    norm_num
  | coe r =>
    rw [← EReal.coe_mul, Ideal.tanh_coe, Ideal.logistic_coe, ← EReal.coe_one, ← EReal.coe_add, ← EReal.coe_mul, half_tanh]

end Cert.KernelIdeal.Scene

end
-- ==== Proof.RefTable.lean ====
/- The reference's table of other nodes, its two gathers, and the distances, read entry by entry. -/
module

public import proofs.«01_k».proof.Proof.Gen.ReferenceIdeal.Run
public import Idealize.ShloMosaic.Lib.Pointwise

@[expose] public section

set_option maxRecDepth 16384

noncomputable section

namespace Cert.ReferenceIdeal.Near

open Cert.ReferenceIdeal Cert.ReferenceIdeal.Gen Cert.ReferenceIdeal.Value Idealize.ShloMosaic Idealize.ShloMosaic.TcCoe Idealize.ShloMosaic.Pointwise

/-- A small number's word, read signed, is the number. -/
theorem toInt_small (k : Nat) (h : k < 2 ^ 31) : (BitVec.ofNat 32 k).toInt = (k : Int) := by
  rw [BitVec.toInt_eq_toNat_of_lt (by rw [BitVec.toNat_ofNat]; omega), BitVec.toNat_ofNat, Nat.mod_eq_of_lt (by omega)]

/-- A choice whose condition fails is its second branch. -/
theorem select_of_not {α : Type} {c : BitVec 1} (h : ¬ c = 1#1) (a b : α) : Scalar.select c a b = b := if_neg h

/-- The gather of pairs of nodes: entry `(b, i, j, f)` is the operand's at the pair the indices name. -/
theorem pair_at {α : Type} (x : S64x256x256x2.Idx → α) (idx : IVec S256x255x2 32) (b : Fin 64) (i : Fin 256) (j : Fin 255) (f : Fin 2)
    (r c : Fin 256) (hr : idx (ix3 i j 0) = BitVec.ofNat 32 r.val) (hc : idx (ix3 i j 1) = BitVec.ofNat 32 c.val) :
    Host.gather gather_S64x256x256x2_S256x255x2_S64x256x255x2_03_12_n_n_12_2_64112 x idx (ix4 b i j f) = x (ix4 b r c f) := by
  unfold Host.gather
  have := r.isLt
  have := c.isLt
  refine congrArg x (funext fun a => Fin.ext ?_)
  match a with
  | ⟨0, _⟩ => show 0 + 0 + b.val = b.val; omega
  | ⟨1, _⟩ =>
    have e : gather_S64x256x256x2_S256x255x2_S64x256x255x2_03_12_n_n_12_2_64112.start (ix4 b i j f) idx 1 = min (idx (ix3 i j 0)).toInt.toNat 255 := by
      refine congrArg (fun z => min (idx z).toInt.toNat 255) (funext fun a => ?_)
      match a with
      | ⟨0, _⟩ => rfl
      | ⟨1, _⟩ => rfl
      | ⟨2, _⟩ => rfl
    show gather_S64x256x256x2_S256x255x2_S64x256x255x2_03_12_n_n_12_2_64112.start (ix4 b i j f) idx 1 + 0 + 0 = r.val
    rw [e, hr, toInt_small _ (by omega)]; omega
  | ⟨2, _⟩ =>
    have e : gather_S64x256x256x2_S256x255x2_S64x256x255x2_03_12_n_n_12_2_64112.start (ix4 b i j f) idx 2 = min (idx (ix3 i j 1)).toInt.toNat 255 := by
      refine congrArg (fun z => min (idx z).toInt.toNat 255) (funext fun a => ?_)
      match a with
      | ⟨0, _⟩ => rfl
      | ⟨1, _⟩ => rfl
      | ⟨2, _⟩ => rfl
    show gather_S64x256x256x2_S256x255x2_S64x256x255x2_03_12_n_n_12_2_64112.start (ix4 b i j f) idx 2 + 0 + 0 = c.val
    rw [e, hc, toInt_small _ (by omega)]; omega
  | ⟨3, _⟩ => show 0 + 0 + f.val = f.val; omega

/-- The gather along the neighbours' axis. -/
theorem take_at {α : Type} (x : S64x256x255x4.Idx → α) (idx : IVec S64x256x4x4x1 32) (b : Fin 64) (i : Fin 256) (k f : Fin 4)
    (p : Fin 255) (hp : idx (ix5 b i k f 0) = BitVec.ofNat 32 p.val) :
    Host.gather gather_S64x256x255x4_S64x256x4x4x1_S64x256x4x4_n_2_013_013_2_4_1111 x idx (ix4 b i k f) = x (ix4 b i p f) := by
  unfold Host.gather
  have := p.isLt
  refine congrArg x (funext fun a => Fin.ext ?_)
  match a with
  | ⟨0, _⟩ => show 0 + b.val + 0 = b.val; omega
  | ⟨1, _⟩ => show 0 + i.val + 0 = i.val; omega
  | ⟨2, _⟩ =>
    have e : gather_S64x256x255x4_S64x256x4x4x1_S64x256x4x4_n_2_013_013_2_4_1111.start (ix4 b i k f) idx 2 = min (idx (ix5 b i k f 0)).toInt.toNat 254 := by
      refine congrArg (fun z => min (idx z).toInt.toNat 254) (funext fun a => ?_)
      match a with
      | ⟨0, _⟩ => rfl
      | ⟨1, _⟩ => rfl
      | ⟨2, _⟩ => rfl
      | ⟨3, _⟩ => rfl
      | ⟨4, _⟩ => rfl
    show gather_S64x256x255x4_S64x256x4x4x1_S64x256x4x4_n_2_013_013_2_4_1111.start (ix4 b i k f) idx 2 + 0 + 0 = p.val
    rw [e, hp, toInt_small _ (by omega)]; omega
  | ⟨3, _⟩ => show 0 + f.val + 0 = f.val; omega

variable (V0 : Valuation τ sig (Elt Ideal))

/-- The column of node numbers. -/
theorem v13_at (i : Fin 256) (z : Fin 1) : (res_main_v13 V0 : IVec S256x1 32) (ix2 i z) = BitVec.ofNat 32 i.val := by
  pointwise [res_main_v13]

/-- Row `i` of the table lists the nodes other than `i` in order. -/
theorem v11_at (i : Fin 256) (j : Fin 255) : (res_main_v11 V0 : IVec S256x255 32) (ix2 i j) = BitVec.ofNat 32 (i.succAbove j).val := by
  pointwise [res_main_v11]
  have hi := i.isLt
  have hj := j.isLt
  show BitVec.ofNat 32 j.val + BitVec.setWidth 32 (BitVec.ofBool (BitVec.sle (BitVec.ofNat 32 i.val) (BitVec.ofNat 32 j.val))) = _
  rw [BitVec.sle, toInt_small _ (by omega), toInt_small _ (by omega)]
  by_cases h : i.val ≤ j.val
  · rw [Fin.succAbove_of_le_castSucc i j (by rw [Fin.le_def]; exact h)]
    have : decide ((i.val : Int) ≤ (j.val : Int)) = true := decide_eq_true (by exact_mod_cast h)
    rw [this]
    show BitVec.ofNat 32 j.val + 1#32 = BitVec.ofNat 32 (j.val + 1)
    rw [BitVec.ofNat_add]
  · rw [Fin.succAbove_of_castSucc_lt i j (by rw [Fin.lt_def]; exact Nat.lt_of_not_le h)]
    have : decide ((i.val : Int) ≤ (j.val : Int)) = false := decide_eq_false (by exact_mod_cast h)
    rw [this]
    show BitVec.ofNat 32 j.val + 0#32 = BitVec.ofNat 32 j.val
    exact BitVec.add_zero _

/-- Wrapping a word that is not negative leaves it. -/
theorem wrap_at (k : Nat) (h : k < 2 ^ 31) (c : BitVec 32) :
    Scalar.select (IntOp.cmpi .slt (BitVec.ofNat 32 k) 0#32) c (BitVec.ofNat 32 k) = BitVec.ofNat 32 k := by
  refine select_of_not (fun e => ?_) _ _
  have : BitVec.ofBool (BitVec.slt (BitVec.ofNat 32 k) 0#32) = 1#1 := e
  rw [BitVec.slt, toInt_small k h] at this
  have h0 : decide ((k : Int) < (0#32 : BitVec 32).toInt) = false := decide_eq_false (by simp)
  rw [h0] at this
  exact absurd this (by decide)

/-- The pairs (node, other node). -/
def pairs : IVec S256x255x2 32 := concatenate S256x255x2 2 [⟨S256x255x1, (broadcastInDim S256x255x1 ![0, 1] bcast_S256x255_S256x255x1_0_1 (broadcastInDim S256x255 ![0, 1] bcast_S256x1_S256x255_0_1 (select (cmpi .slt (res_main_v13 V0) (broadcastInDim S256x1 ![] bcast_S_S256x1 (constantI S_ 32 0#32))) (addi (res_main_v13 V0) (broadcastInDim S256x1 ![] bcast_S_S256x1 (constantI S_ 32 256#32))) (res_main_v13 V0))))⟩, ⟨S256x255x1, (broadcastInDim S256x255x1 ![0, 1] bcast_S256x255_S256x255x1_0_1 (select (cmpi .slt (res_main_v11 V0) (broadcastInDim S256x255 ![] bcast_S_S256x255 (constantI S_ 32 0#32))) (addi (res_main_v11 V0) (broadcastInDim S256x255 ![] bcast_S_S256x255 (constantI S_ 32 256#32))) (res_main_v11 V0)))⟩] concatenates_S256x255x1_S256x255x1_S256x255x2_d2

/-- A pair's first number is the node itself. -/
theorem pairs_0 (i : Fin 256) (j : Fin 255) : pairs V0 (ix3 i j 0) = BitVec.ofNat 32 i.val := by
  pointwise [pairs]
  rw [v13_at]
  exact wrap_at _ (by have := i.isLt; omega) _

/-- A pair's second number is the node's `j`-th other node. -/
theorem pairs_1 (i : Fin 256) (j : Fin 255) : pairs V0 (ix3 i j 1) = BitVec.ofNat 32 (i.succAbove j).val := by
  pointwise [pairs]
  rw [v11_at]
  exact wrap_at _ (by have := (i.succAbove j).isLt; omega) _

/-- A node array's differences, other node less node. -/
def diffs (x : FVec Ideal S64x256x2 .f32) : FVec Ideal S64x256x256x2 .f32 :=
  subf (broadcastInDim S64x256x256x2 ![0, 1, 2, 3] bcast_S64x1x256x2_S64x256x256x2_0_1_2_3 (broadcastInDim S64x1x256x2 ![0, 2, 3] bcast_S64x256x2_S64x1x256x2_0_2_3 x))
    (broadcastInDim S64x256x256x2 ![0, 1, 2, 3] bcast_S64x256x1x2_S64x256x256x2_0_1_2_3 (broadcastInDim S64x256x1x2 ![0, 1, 3] bcast_S64x256x2_S64x256x1x2_0_1_3 x))

/-- The differences gathered by the table. -/
theorem diffs_at (x : FVec Ideal S64x256x2 .f32) (b : Fin 64) (i : Fin 256) (j : Fin 255) (f : Fin 2) :
    Host.gather gather_S64x256x256x2_S256x255x2_S64x256x255x2_03_12_n_n_12_2_64112 (diffs x) (pairs V0) (ix4 b i j f)
      = (x (ix3 b (i.succAbove j) f) - x (ix3 b i f) : EReal) := by
  rw [pair_at _ _ b i j f i (i.succAbove j) (pairs_0 V0 i j) (pairs_1 V0 i j)]
  pointwise [diffs]

/-- The relative positions are looked up by pairs of nodes. -/
theorem v33_eq : (res_main_v33 V0 : FVec Ideal S64x256x255x2 .f32)
    = Host.gather gather_S64x256x256x2_S256x255x2_S64x256x255x2_03_12_n_n_12_2_64112 (diffs (V0 (Proc.devRef .tc main_arg2))) (pairs V0) := rfl

/-- A node's position. -/
abbrev pos (b : Fin 64) (i : Fin 256) (f : Fin 2) : EReal := (V0 (Proc.devRef .tc main_arg2) : FVec Ideal S64x256x2 .f32) (ix3 b i f)

/-- The distance to the `j`-th other node. -/
theorem v56_at (b : Fin 64) (i : Fin 256) (j : Fin 255) : (res_main_v56 V0 : FVec Ideal S64x256x255 .f32) (ix3 b i j)
    = Ideal.sqrt (∑ f : Fin 2, (pos V0 b (i.succAbove j) f - pos V0 b i f) * (pos V0 b (i.succAbove j) f - pos V0 b i f)) := by
  pointwise [res_main_v56]
  rw [v33_eq]
  simp only [diffs_at]

/-- The word of plus infinity. -/
theorem word_top : Ideal.ofBits .f32 0x7F800000#32 = ⊤ := by simp [Ideal.ofBits, Ideal.ieee]

/-- The word of minus infinity. -/
theorem word_bot : Ideal.ofBits .f32 0xFF800000#32 = ⊥ := by simp [Ideal.ofBits, Ideal.ieee]

/-- Replacing what is not a finite number leaves a real as it is. -/
theorem finite_kept (r : ℝ) (a c d : EReal) :
    (if (if (if (r : EReal) ≠ r then a else r) = Ideal.ofBits .f32 0x7F800000#32 then c else if (r : EReal) ≠ r then a else r)
        = Ideal.ofBits .f32 0xFF800000#32 then d
      else if (if (r : EReal) ≠ r then a else r) = Ideal.ofBits .f32 0x7F800000#32 then c else if (r : EReal) ≠ r then a else r) = (r : EReal) := by
  rw [word_top, word_bot]
  simp

/-- The sort's keys are the distances negated. -/
theorem v58_at (b : Fin 64) (i : Fin 256) (j : Fin 255) (r : ℝ) (h : (res_main_v56 V0 : FVec Ideal S64x256x255 .f32) (ix3 b i j) = (r : EReal)) :
    (res_main_v58 V0 : FVec Ideal S64x256x255 .f32) (ix3 b i j) = -(r : EReal) := by
  pointwise [res_main_v58, res_main_call1_v5, res_main_call1_v2]
  simp only [h]
  exact congrArg (fun z : EReal => -z) (finite_kept r _ _ _)

/-- The index of the `k`-th greatest key, among equal keys the first. -/
theorem top_at (x : FVec Ideal S64x256x255 .f32) (b : Fin 64) (i : Fin 256) (k : Fin 4) :
    (Host.topK S64x256x4 2 (FloatOps.cmpfTotal (F := Ideal) .gt) x sliceFits_S64x256x255_S64x256x4).2 (ix3 b i k)
      = BitVec.ofNat 32 (sortedFrom (fun a c : Fin 255 => decide ((x (ix3 b i c) : EReal) < x (ix3 b i a))) (k.castLE (by decide))).val := by
  have hk : k.val < 255 := by have := k.isLt; omega
  have hal : ∀ c : Fin 255, Shape.Idx.along (s := S64x256x255) (ix3 b i (⟨k.val, hk⟩ : Fin 255)) 2 c = ix3 b i c := fun c => by
    funext a
    match a with
    | ⟨0, _⟩ => rfl
    | ⟨1, _⟩ => rfl
    | ⟨2, _⟩ => rfl
  have hlt : ∀ u v : EReal, (FloatOps.cmpfTotal (F := Ideal) (φ := .f32) .gt u v == 1#1) = decide (v < u) := fun u v => by
    show (BitVec.ofBool (decide (v < u)) == 1#1) = _
    cases decide (v < u) <;> rfl
  unfold Host.topK Host.sort2
  simp only []
  pointwise
  simp only [hal, hlt]
  rfl

end Cert.ReferenceIdeal.Near

end
-- ==== Proof.RefNear.lean ====
/- The reference's nearest neighbours: their features relative to the node, read entry by entry. -/
module

public import proofs.«01_k».proof.Proof.RefTable
public import proofs.«01_k».proof.Proof.Pick
public import Idealize.ShloMosaic.Lib.ReduceAll

@[expose] public section

set_option maxRecDepth 16384

noncomputable section

namespace Cert.ReferenceIdeal.Near

open Cert.ReferenceIdeal Cert.ReferenceIdeal.Gen Cert.ReferenceIdeal.Value Idealize.ShloMosaic Idealize.ShloMosaic.TcCoe Idealize.ShloMosaic.Pointwise

/-- A node's four features: its position, and its displacement over the last step. -/
def feat (p q : Fin 64 → Fin 256 → Fin 2 → ℝ) (b : Fin 64) (i : Fin 256) (a : Fin 4) : ℝ :=
  if h : a.val < 2 then p b i ⟨a.val, h⟩
  else p b i ⟨a.val - 2, by have := a.isLt; omega⟩ - q b i ⟨a.val - 2, by have := a.isLt; omega⟩

/-- The distances from node `i` of scene `b`, its own masked. -/
def away (p : Fin 64 → Fin 256 → Fin 2 → ℝ) (b : Fin 64) (i : Fin 256) (r : Fin 256) : EReal :=
  if r = i then ⊤ else ((Real.sqrt (∑ f : Fin 2, (p b r f - p b i f) * (p b r f - p b i f)) : ℝ) : EReal)

variable (V0 : Valuation τ sig (Elt Ideal)) (p q : Fin 64 → Fin 256 → Fin 2 → ℝ)
variable (hp : ∀ b i f, (V0 (Proc.devRef .tc main_arg2) : FVec Ideal S64x256x2 .f32) (ix3 b i f) = ((p b i f : ℝ) : EReal))
variable (hq : ∀ b i f, (V0 (Proc.devRef .tc main_arg1) : FVec Ideal S64x256x2 .f32) (ix3 b i f) = ((q b i f : ℝ) : EReal))

include hp in
/-- The distance from node `i` to its `j`-th other node. -/
theorem v56_real (b : Fin 64) (i : Fin 256) (j : Fin 255) : (res_main_v56 V0 : FVec Ideal S64x256x255 .f32) (ix3 b i j)
    = ((Real.sqrt (∑ f : Fin 2, (p b (i.succAbove j) f - p b i f) * (p b (i.succAbove j) f - p b i f)) : ℝ) : EReal) := by
  rw [v56_at]
  unfold pos
  simp only [hp, ← EReal.coe_sub, ← EReal.coe_mul, ← EReal.coe_add, Fin.sum_univ_two]
  show (if _ then _ else _) = _
  rw [if_neg (not_lt.mpr (add_nonneg (mul_self_nonneg _) (mul_self_nonneg _)))]

include hp in
/-- The keys that are sorted are the distances negated. -/
theorem v58_real (b : Fin 64) (i : Fin 256) (j : Fin 255) : (res_main_v58 V0 : FVec Ideal S64x256x255 .f32) (ix3 b i j)
    = -(away p b i (i.succAbove j)) := by
  rw [v58_at V0 b i j _ (v56_real V0 p hp b i j), away, if_neg (Fin.succAbove_ne i j)]

/-- The sort's keys. -/
def keys : FVec Ideal S64x256x255 .f32 := res_main_v58 V0

/-- The place of node `i`'s `k`-th nearest among the others. -/
def place (b : Fin 64) (i : Fin 256) (k : Fin 4) : Fin 255 :=
  sortedFrom (fun a c : Fin 255 => decide ((keys V0 (ix3 b i c) : EReal) < keys V0 (ix3 b i a))) (k.castLE (by decide))

include hp in
/-- It is the `k`-th pick of the distances. -/
theorem place_pick (b : Fin 64) (i : Fin 256) (k : Fin 4) : i.succAbove (place V0 b i k) = Pick.nth (away p b i) k.val :=
  Pick.sortedFrom_eq_nth (N := 255) (by decide) i (away p b i) (if_pos rfl)
    (fun r hr => by rw [away, if_neg hr]; exact EReal.coe_lt_top _) (fun j => keys V0 (ix3 b i j)) (fun j => v58_real V0 p hp b i j) k

/-- The neighbour's place, repeated for each of its features. -/
theorem v60_at (b : Fin 64) (i : Fin 256) (k f : Fin 4) : (res_main_v60 V0 : IVec S64x256x4x4 32) (ix4 b i k f) = BitVec.ofNat 32 (place V0 b i k).val := by
  have h := top_at (keys V0) b i k
  unfold keys at h
  pointwise [res_main_v60]
  rw [h]
  rfl

/-- The index at which a feature is looked up is the neighbour's place. -/
theorem index_at (b : Fin 64) (i : Fin 256) (k f : Fin 4) (z : Fin 1) :
    (res_main_call2_v5 V0 : IVec S64x256x4x4x1 32) (ix5 b i k f z) = BitVec.ofNat 32 (place V0 b i k).val := by
  pointwise [res_main_call2_v5]
  rw [v60_at]
  exact wrap_at _ (by have := (place V0 b i k).isLt; omega) _

/-- The table of features relative to each node. -/
def rels : FVec Ideal S64x256x255x4 .f32 :=
  concatenate S64x256x255x4 3 [⟨S64x256x255x2, (res_main_v33 V0)⟩, ⟨S64x256x255x2, (Host.gather gather_S64x256x256x2_S256x255x2_S64x256x255x2_03_12_n_n_12_2_64112 (diffs (res_main_v34 V0)) (pairs V0))⟩] concatenates_S64x256x255x2_S64x256x255x2_S64x256x255x4_d3

include hp hq in
/-- The features of the `j`-th other node relative to node `i`. -/
theorem rels_at (b : Fin 64) (i : Fin 256) (j : Fin 255) (a : Fin 4) :
    rels V0 (ix4 b i j a) = ((feat p q b (i.succAbove j) a - feat p q b i a : ℝ) : EReal) := by
  pointwise [rels]
  rw [v33_eq]
  simp only [diffs_at]
  pointwise [res_main_v34]
  unfold feat
  split
  · rw [hp, hp, EReal.coe_sub]
  · rw [hp, hp, hq, hq]; push_cast; rfl

/-- A word below 255 passes both bounds. -/
theorem between_at (k : Nat) (h : k < 255) :
    IntOp.andi (IntOp.cmpi .sge (BitVec.ofNat 32 k) 0#32) (IntOp.cmpi .sle (BitVec.ofNat 32 k) 254#32) = 1#1 := by
  show BitVec.ofBool (BitVec.sle 0#32 (BitVec.ofNat 32 k)) &&& BitVec.ofBool (BitVec.sle (BitVec.ofNat 32 k) 254#32) = 1#1
  rw [BitVec.sle, BitVec.sle, toInt_small k (by omega)]
  have h0 : decide ((0#32 : BitVec 32).toInt ≤ (k : Int)) = true := decide_eq_true (by simp)
  have h1 : decide ((k : Int) ≤ (254#32 : BitVec 32).toInt) = true :=
    decide_eq_true (by rw [show (254#32 : BitVec 32).toInt = 254 from rfl]; omega)
  rw [h0, h1]
  rfl

/-- The place is in the table. -/
def inside : IVec S64x256x4x4 1 :=
  Host.reduce IntOp.andi (andi (cmpi .sge (res_main_call2_v5 V0) (broadcastInDim S64x256x4x4x1 ![] bcast_S_S64x256x4x4x1 (constantI S_ 32 0#32))) (cmpi .sle (res_main_call2_v5 V0) (broadcastInDim S64x256x4x4x1 ![0, 1, 2, 3, 4] bcast_S1x1x1x1x1_S64x256x4x4x1_0_1_2_3_4 (broadcastInDim S1x1x1x1x1 ![4] bcast_S1_S1x1x1x1x1_4 (constantI S1 32 254#32))))) (constantI S_ 1 1#1) reducesTo_S64x256x4x4x1_S64x256x4x4_d4 h_S_

/-- Every index looked up lies inside the table. -/
theorem inside_at (b : Fin 64) (i : Fin 256) (k f : Fin 4) : inside V0 (ix4 b i k f) = 1#1 := by
  refine Host.reduce_andi_one _ _ _ _ _ rfl fun x => ?_
  obtain ⟨b, i, k, f, z, rfl⟩ : ∃ b i k f z, x = ix5 b i k f z := ⟨_, _, _, _, _, eq_ix5 x⟩
  pointwise
  rw [index_at]
  exact between_at _ (place V0 b i k).isLt

/-- The neighbours' features are looked up in the table of relative features. -/
theorem v61_eq : (res_main_v61 V0 : FVec Ideal S64x256x4x4 .f32) = select (inside V0)
    (Host.gather gather_S64x256x255x4_S64x256x4x4x1_S64x256x4x4_n_2_013_013_2_4_1111 (rels V0) (res_main_call2_v5 V0))
    (broadcastInDim S64x256x4x4 ![] bcast_S_S64x256x4x4 (constant S_ .f32 0x7FC00000#32)) := rfl

include hp hq in
/-- The `k`-th nearest node's features relative to node `i`. -/
theorem v61_at (b : Fin 64) (i : Fin 256) (k a : Fin 4) : (res_main_v61 V0 : FVec Ideal S64x256x4x4 .f32) (ix4 b i k a)
    = ((feat p q b (Pick.nth (away p b i) k.val) a - feat p q b i a : ℝ) : EReal) := by
  rw [v61_eq]
  show Scalar.select (inside V0 (ix4 b i k a)) _ _ = _
  rw [inside_at, take_at _ _ b i k a (place V0 b i k) (index_at V0 b i k a 0), rels_at V0 p q hp hq, place_pick V0 p hp]
  rfl

include hp hq in
/-- Replacing what is not a finite number leaves them as they are. -/
theorem clean_at (b : Fin 64) (i : Fin 256) (k a : Fin 4) :
    (if (res_main_call3_v4 V0 : FVec Ideal S64x256x4x4 .f32) (ix4 b i k a) = Ideal.ofBits .f32 0xFF800000#32 then Ideal.ofBits .f32 0xFF7FFFFF#32
      else (res_main_call3_v4 V0 : FVec Ideal S64x256x4x4 .f32) (ix4 b i k a))
    = ((feat p q b (Pick.nth (away p b i) k.val) a - feat p q b i a : ℝ) : EReal) := by
  pointwise [res_main_call3_v4, res_main_call3_v1]
  simp only [v61_at V0 p q hp hq]
  exact finite_kept _ _ _ _

end Cert.ReferenceIdeal.Near

end
-- ==== Proof.RefCell.lean ====
/- The reference's cell and its projection, read entry by entry. -/
module

public import proofs.«01_k».proof.Proof.RefNear

@[expose] public section

set_option maxRecDepth 16384

noncomputable section

namespace Cert.ReferenceIdeal.Near

open Cert.ReferenceIdeal Cert.ReferenceIdeal.Gen Cert.ReferenceIdeal.Value Idealize.ShloMosaic Idealize.ShloMosaic.TcCoe Idealize.ShloMosaic.Pointwise

variable (V0 : Valuation τ sig (Elt Ideal))

variable (p q : Fin 64 → Fin 256 → Fin 2 → ℝ)

/-- The `x`-th entry of node `i`'s input to the cell: its `x / 8`-th neighbour's features relative to it, embedded and rectified. -/
def fed (w : FVec Ideal S4x8 .f32) (b : Fin 64) (i : Fin 256) (x : Fin 32) : EReal :=
  max (∑ a : Fin 4, ((feat p q b (Pick.nth (away p b i) (x.val / 8)) a - feat p q b i a : ℝ) : EReal)
    * w (ix2 a (⟨x.val % 8, Nat.mod_lt _ (by decide)⟩ : Fin 8))) 0

variable (hp : ∀ b i f, (V0 (Proc.devRef .tc main_arg2) : FVec Ideal S64x256x2 .f32) (ix3 b i f) = ((p b i f : ℝ) : EReal))
variable (hq : ∀ b i f, (V0 (Proc.devRef .tc main_arg1) : FVec Ideal S64x256x2 .f32) (ix3 b i f) = ((q b i f : ℝ) : EReal))
variable (h4 : ∀ i, (V0 (Proc.devRef .tc main_arg4) : FVec Ideal S8 .f32) (ix1 i) = (0 : EReal))
variable (h7 : ∀ i, (V0 (Proc.devRef .tc main_arg7) : FVec Ideal S1024 .f32) (ix1 i) = (0 : EReal))
variable (h8 : ∀ i, (V0 (Proc.devRef .tc main_arg8) : FVec Ideal S1024 .f32) (ix1 i) = (0 : EReal))
variable (h10 : ∀ i, (V0 (Proc.devRef .tc main_arg10) : FVec Ideal S32 .f32) (ix1 i) = (0 : EReal))

include hp hq h4 h7 h8 in
/-- The gates' pre-activations. -/
theorem v81_at (r : Fin 16384) (g : Fin 1024) : (res_main_v81 V0 : FVec Ideal S16384x1024 .f32) (ix2 r g)
    = (∑ x : Fin 32, fed p q (V0 (Proc.devRef .tc main_arg3)) ⟨r.val / 256, by have := r.isLt; omega⟩ ⟨r.val % 256, Nat.mod_lt _ (by decide)⟩ x
        * (V0 (Proc.devRef .tc main_arg5) : FVec Ideal S1024x32 .f32) (ix2 g x) : EReal) := by
  pointwise [res_main_v81]
  simp only [h4, h7, h8, clean_at V0 p q hp hq, zero_mul, Finset.sum_const_zero, add_zero]
  rfl

/-- The logistic function as the reference spells it, entry by entry. -/
def logit (a : FVec Ideal S16384x256 .f32) : FVec Ideal S16384x256 .f32 :=
  Host.divf (broadcastInDim S16384x256 ![] bcast_S_S16384x256 (constant S_ .f32 0x3F800000#32))
    (addf (broadcastInDim S16384x256 ![] bcast_S_S16384x256 (constant S_ .f32 0x3F800000#32)) (Host.exp (Host.negf a)))

/-- Each entry of `logit` is the logistic function of the entry. -/
theorem logit_at (a : FVec Ideal S16384x256 .f32) (r : Fin 16384) (j : Fin 256) :
    logit a (ix2 r j) = Ideal.logistic (a (ix2 r j)) := by
  pointwise [logit]
  rfl

/-- The hidden state after one step of the cell, from the gates' pre-activations; both states start at zero. -/
def state (y : FVec Ideal S16384x1024 .f32) : FVec Ideal S16384x256 .f32 :=
  mulf (logit (extractStridedSlice S16384x256 ![0, 768] y slices_S16384x1024_S16384x256_0_768))
    (Host.tanh (addf
      (mulf (logit (extractStridedSlice S16384x256 ![0, 256] y slices_S16384x1024_S16384x256_0_256))
        (broadcastInDim S16384x256 ![] bcast_S_S16384x256 (constant S_ .f32 0x00000000#32)))
      (mulf (logit (extractStridedSlice S16384x256 ![0, 0] y slices_S16384x1024_S16384x256_0_0))
        (Host.tanh (extractStridedSlice S16384x256 ![0, 512] y slices_S16384x1024_S16384x256_0_512)))))

/-- The state of node `r`, entry by entry; the forgotten part is a product with zero. -/
theorem state_at (y : FVec Ideal S16384x1024 .f32) (r : Fin 16384) (j : Fin 256) : state y (ix2 r j)
    = (Ideal.logistic (y (ix2 r (⟨768 + j.val, by have := j.isLt; omega⟩ : Fin 1024)))
      * Ideal.tanh (Ideal.logistic (y (ix2 r (⟨j.val, by have := j.isLt; omega⟩ : Fin 1024)))
        * Ideal.tanh (y (ix2 r (⟨512 + j.val, by have := j.isLt; omega⟩ : Fin 1024)))) : EReal) := by
  pointwise [state]
  simp only [logit_at]
  pointwise
  simp

/-- The reference's result: the states mapped by the output matrix, plus its bias. -/
def out : FVec Ideal S16384x32 .f32 :=
  addf (Host.dotGeneral dot_S16384x256_S256x32_S16384x32_1_0_0_1_n_n none (state (res_main_v81 V0))
      (transpose S256x32 [1, 0] (V0 (Proc.devRef .tc main_arg9) : FVec Ideal S32x256 .f32) transposes_S32x256_S256x32_1_0 : FVec Ideal S256x32 .f32))
    (broadcastInDim S16384x32 ![0, 1] bcast_S1x32_S16384x32_0_1 (broadcastInDim S1x32 ![1] bcast_S32_S1x32_1 (V0 (Proc.devRef .tc main_arg10) : FVec Ideal S32 .f32)))

include h10 in
/-- The reference's result, entry by entry. -/
theorem out_at (r : Fin 16384) (o : Fin 32) : out V0 (ix2 r o)
    = (∑ j : Fin 256, state (res_main_v81 V0) (ix2 r j) * (V0 (Proc.devRef .tc main_arg9) : FVec Ideal S32x256 .f32) (ix2 o j) : EReal) := by
  pointwise [out]
  simp only [h10, add_zero]

end Cert.ReferenceIdeal.Near

end
-- ==== Proof.Join.lean ====
/- The kernel's result and the reference's, entry by entry, are the same. -/
module

public import proofs.«01_k».proof.Proof.KernelArray
public import proofs.«01_k».proof.Proof.SceneAt
public import proofs.«01_k».proof.Proof.Sigmoid
public import proofs.«01_k».proof.Proof.RefCell

@[expose] public section

set_option maxRecDepth 16384

noncomputable section

namespace Cert.KernelIdeal.Scene

open Cert.KernelIdeal Cert.KernelIdeal.Gen Idealize.ShloMosaic Idealize.ShloMosaic.TcCoe Idealize.ShloMosaic.Pointwise
open Cert.ReferenceIdeal.Near (feat away fed)

variable (p q : Fin 64 → Fin 256 → Fin 2 → ℝ) (b : Fin 64)

/-- Scene `b`'s coordinates are the two frames of positions: the later one's in the first two rows, the earlier one's in the last two. -/
def Holds (v : Vec Ideal S1x4x256 .f32) : Prop :=
  ∀ (a : Fin 4) (n : Fin 256), v (ix3 0 a n)
    = (((if h : a.val < 2 then p b n ⟨a.val, h⟩ else q b n ⟨a.val - 2, by have := a.isLt; omega⟩ : ℝ)) : EReal)

/-- The scene's features are the reference's. -/
theorem feats_real (v : Vec Ideal S1x4x256 .f32) (hv : Holds p q b v) (a : Fin 4) (n : Fin 256) :
    feats v (ix2 a n) = ((feat p q b n a : ℝ) : EReal) := by
  rw [feats_at, hv a n]
  unfold feat
  by_cases h : a.val < 2
  · rw [if_pos h, dif_pos h, dif_pos h]
  · rw [if_neg h, dif_neg h, dif_neg h, hv, dif_pos (show a.val - 2 < 2 by have := a.isLt; omega), EReal.coe_sub]

/-- The scene's distances are the reference's. -/
theorem dist_real (v : Vec Ideal S1x4x256 .f32) (hv : Holds p q b v) (n : Fin 256) :
    col (dist (feats v)) n = away p b n := by
  funext r
  show dist (feats v) (ix2 r n) = _
  rw [dist_at, feats_real p q b v hv, feats_real p q b v hv, feats_real p q b v hv, feats_real p q b v hv]
  unfold away
  by_cases h : r = n
  · rw [if_pos h, if_pos h]
  · rw [if_neg h, if_neg h, ← EReal.coe_sub, ← EReal.coe_sub, ← EReal.coe_mul, ← EReal.coe_mul, ← EReal.coe_add, Ideal.sqrt_coe,
      if_neg (not_lt.2 (add_nonneg (mul_self_nonneg _) (mul_self_nonneg _))), Fin.sum_univ_two]
    refine congrArg (fun z : ℝ => ((Real.sqrt z : ℝ) : EReal)) ?_
    show (p b n 0 - p b r 0) * (p b n 0 - p b r 0) + (p b n 1 - p b r 1) * (p b n 1 - p b r 1) = _
    ring

/-- A sum of four reals, taken over the extended reals, is their real sum. -/
theorem coe_sum (f : Fin 4 → ℝ) : ∑ a, ((f a : ℝ) : EReal) = ((∑ a, f a : ℝ) : EReal) := by
  simp only [Fin.sum_univ_four, EReal.coe_add]

/-- Embedding is linear: the difference of two embedded nodes is the embedded difference. -/
theorem emb_sub (w : Vec Ideal S4x8 .f32) (hw : ∀ i, ∃ r : ℝ, w i = (r : EReal)) (v : Vec Ideal S1x4x256 .f32) (hv : Holds p q b v)
    (k : Fin 8) (s n : Fin 256) :
    (emb w (feats v) (ix2 k s) - emb w (feats v) (ix2 k n) : EReal)
      = ∑ a : Fin 4, ((feat p q b s a - feat p q b n a : ℝ) : EReal) * w (ix2 a k) := by
  choose u hu using hw
  rw [emb_at, emb_at]
  simp only [hu, feats_real p q b v hv, ← EReal.coe_mul]
  rw [coe_sum, coe_sum, coe_sum, ← EReal.coe_sub, ← Finset.sum_sub_distrib]
  exact congrArg _ (Finset.sum_congr rfl fun a _ => by ring)

/-- What the cell is fed is the same on both sides. -/
theorem feed_real (w : Vec Ideal S4x8 .f32) (hw : ∀ i, ∃ r : ℝ, w i = (r : EReal)) (v : Vec Ideal S1x4x256 .f32) (hv : Holds p q b v)
    (x : Fin 32) (n : Fin 256) : feed (emb w (feats v)) (dist (feats v)) (ix2 x n) = fed p q w b n x := by
  rw [feed_at, dist_real p q b v hv, emb_sub p q b w hw v hv]
  rfl

/-- The kernel's cell, with the logistic function in place of its other spelling. -/
theorem cell_eq (wi : Vec Ideal S1024x32 .f32) (x : Fin 32 → EReal) (y : Fin 1024 → EReal)
    (hy : ∀ g, y g = ∑ k : Fin 32, x k * (wi (ix2 g k) : EReal)) (j : Fin 256) :
    cell wi x j = Ideal.logistic (y ⟨768 + j.val, by have := j.isLt; omega⟩)
      * Ideal.tanh (Ideal.logistic (y ⟨j.val, by have := j.isLt; omega⟩) * Ideal.tanh (y ⟨512 + j.val, by have := j.isLt; omega⟩)) := by
  have h : ∀ g, act wi x g = y g := fun g => by
    rw [hy]; exact Finset.sum_congr rfl fun k _ => mul_comm _ _
  unfold cell
  rw [h, h, h, sig_eq, sig_eq]

variable (V0 : Valuation Cert.ReferenceIdeal.τ Cert.ReferenceIdeal.sig (Elt Ideal))
variable (hp : ∀ b i f, (V0 (Proc.devRef .tc Cert.ReferenceIdeal.main_arg2) : FVec Ideal Cert.ReferenceIdeal.S64x256x2 .f32) (ix3 b i f) = ((p b i f : ℝ) : EReal))
variable (hq : ∀ b i f, (V0 (Proc.devRef .tc Cert.ReferenceIdeal.main_arg1) : FVec Ideal Cert.ReferenceIdeal.S64x256x2 .f32) (ix3 b i f) = ((q b i f : ℝ) : EReal))
variable (h4 : ∀ i, (V0 (Proc.devRef .tc Cert.ReferenceIdeal.main_arg4) : FVec Ideal Cert.ReferenceIdeal.S8 .f32) (ix1 i) = (0 : EReal))
variable (h7 : ∀ i, (V0 (Proc.devRef .tc Cert.ReferenceIdeal.main_arg7) : FVec Ideal Cert.ReferenceIdeal.S1024 .f32) (ix1 i) = (0 : EReal))
variable (h8 : ∀ i, (V0 (Proc.devRef .tc Cert.ReferenceIdeal.main_arg8) : FVec Ideal Cert.ReferenceIdeal.S1024 .f32) (ix1 i) = (0 : EReal))
variable (h10 : ∀ i, (V0 (Proc.devRef .tc Cert.ReferenceIdeal.main_arg10) : FVec Ideal Cert.ReferenceIdeal.S32 .f32) (ix1 i) = (0 : EReal))

include hp hq h4 h7 h8 h10 in
/-- Row `n` of scene `b`'s result is the reference's row for that node. -/
theorem scene_eq (w : Vec Ideal S4x8 .f32) (wi : Vec Ideal S1024x32 .f32) (wo : Vec Ideal S32x256 .f32) (v : Vec Ideal S1x4x256 .f32)
    (ew : w = V0 (Proc.devRef .tc Cert.ReferenceIdeal.main_arg3)) (ei : wi = V0 (Proc.devRef .tc Cert.ReferenceIdeal.main_arg5))
    (eo : wo = V0 (Proc.devRef .tc Cert.ReferenceIdeal.main_arg9))
    (hw : ∀ i, ∃ r : ℝ, w i = (r : EReal)) (hv : Holds p q b v) (n : Fin 256) (o : Fin 32) :
    scene w wi wo v (ix2 n o) = Cert.ReferenceIdeal.Near.out V0 (ix2 (row b n) o) := by
  have hb := b.isLt
  have hn := n.isLt
  have eb : (⟨(row b n).val / 256, by have := (row b n).isLt; omega⟩ : Fin 64) = b := Fin.ext (show (b.val * 256 + n.val) / 256 = b.val by omega)
  have en : (⟨(row b n).val % 256, Nat.mod_lt _ (by decide)⟩ : Fin 256) = n := Fin.ext (show (b.val * 256 + n.val) % 256 = n.val by omega)
  unfold scene
  rw [result_at, Cert.ReferenceIdeal.Near.out_at V0 h10]
  refine Finset.sum_congr rfl fun j _ => ?_
  rw [Cert.ReferenceIdeal.Near.state_at, ← eo,
    cell_eq wi _ (fun g => (Cert.ReferenceIdeal.Value.res_main_v81 V0 : FVec Ideal Cert.ReferenceIdeal.S16384x1024 .f32) (ix2 (row b n) g)) ?_ j, mul_comm]
  intro g
  show (Cert.ReferenceIdeal.Value.res_main_v81 V0 : FVec Ideal Cert.ReferenceIdeal.S16384x1024 .f32) (ix2 (row b n) g) = _
  rw [Cert.ReferenceIdeal.Near.v81_at V0 p q hp hq h4 h7 h8, eb, en, ← ew, ← ei]
  show @Eq EReal _ _
  exact Finset.sum_congr rfl fun x _ => by rw [feed_real p q b w hw v hv]

variable (m : (ℓ : Loc nD τ Cert.KernelIdeal.sig) → Buf (Elt Ideal) ℓ) (c : Dev nD)

/-- The rows of coordinates the region finds are the two frames of positions. -/
theorem coords_holds
    (kp : ∀ b i f, (m ((c : Thread nD τ).loc main_arg2) : FVec Ideal S64x256x2 .f32) (ix3 b i f) = ((p b i f : ℝ) : EReal))
    (kq : ∀ b i f, (m ((c : Thread nD τ).loc main_arg1) : FVec Ideal S64x256x2 .f32) (ix3 b i f) = ((q b i f : ℝ) : EReal)) :
    Holds p q b (coords m c b) := by
  intro a n
  show (V m c main_v2 : Vec Ideal S64x4x256 .f32) (ix3 b a n) = _
  rw [V_coords]
  pointwise
  by_cases h : a.val < 2
  · simp only [h, dif_pos, if_pos]
    exact kp _ _ _
  · simp only [h, dif_neg, if_neg, not_false_eq_true]
    exact kq _ _ _

end Cert.KernelIdeal.Scene

end
-- ==== Proof.Equal.lean ====
/- The kernel's run and the reference's, from memories agreeing on the arguments, end at one result. -/
module

public import proofs.«01_k».proof.Defs
public import proofs.«01_k».proof.Proof.Assumed
public import proofs.«01_k».proof.Proof.Join

@[expose] public section

set_option maxRecDepth 16384

noncomputable section

namespace Cert.Proof

open Idealize.ShloMosaic Idealize.ShloMosaic.TcCoe Idealize.SL.Sem Idealize.ShloMosaic.Pointwise
open Cert.KernelIdeal.Scene (row)

/-- Every row of the result is some node's of some scene. -/
theorem row_split (r : Fin 16384) :
    row ⟨r.val / 256, by have := r.isLt; omega⟩ ⟨r.val % 256, Nat.mod_lt _ (by decide)⟩ = r :=
  Fin.ext (show r.val / 256 * 256 + r.val % 256 = r.val by omega)

/-- At arguments the precondition allows the kernel's result array is the reference's. -/
theorem arr_eq [Cert.Pre_finite_unbiased.Facts] (m : (ℓ : Loc Cert.KernelIdeal.nD Cert.KernelIdeal.τ Cert.KernelIdeal.sig) → Buf (Elt Ideal) ℓ)
    (c : Dev Cert.KernelIdeal.nD) (V0 : Valuation Cert.ReferenceIdeal.τ Cert.ReferenceIdeal.sig (Elt Ideal))
    (hm : Cert.Pre_KernelIdeal_finite_unbiased m)
    (e1 : V0 (Proc.devRef .tc Cert.ReferenceIdeal.main_arg1) = m ((c : Thread Cert.KernelIdeal.nD Cert.KernelIdeal.τ).loc Cert.KernelIdeal.main_arg1))
    (e2 : V0 (Proc.devRef .tc Cert.ReferenceIdeal.main_arg2) = m ((c : Thread Cert.KernelIdeal.nD Cert.KernelIdeal.τ).loc Cert.KernelIdeal.main_arg2))
    (e3 : V0 (Proc.devRef .tc Cert.ReferenceIdeal.main_arg3) = m ((c : Thread Cert.KernelIdeal.nD Cert.KernelIdeal.τ).loc Cert.KernelIdeal.main_arg3))
    (e4 : V0 (Proc.devRef .tc Cert.ReferenceIdeal.main_arg4) = m ((c : Thread Cert.KernelIdeal.nD Cert.KernelIdeal.τ).loc Cert.KernelIdeal.main_arg4))
    (e5 : V0 (Proc.devRef .tc Cert.ReferenceIdeal.main_arg5) = m ((c : Thread Cert.KernelIdeal.nD Cert.KernelIdeal.τ).loc Cert.KernelIdeal.main_arg5))
    (e7 : V0 (Proc.devRef .tc Cert.ReferenceIdeal.main_arg7) = m ((c : Thread Cert.KernelIdeal.nD Cert.KernelIdeal.τ).loc Cert.KernelIdeal.main_arg7))
    (e8 : V0 (Proc.devRef .tc Cert.ReferenceIdeal.main_arg8) = m ((c : Thread Cert.KernelIdeal.nD Cert.KernelIdeal.τ).loc Cert.KernelIdeal.main_arg8))
    (e9 : V0 (Proc.devRef .tc Cert.ReferenceIdeal.main_arg9) = m ((c : Thread Cert.KernelIdeal.nD Cert.KernelIdeal.τ).loc Cert.KernelIdeal.main_arg9))
    (e10 : V0 (Proc.devRef .tc Cert.ReferenceIdeal.main_arg10) = m ((c : Thread Cert.KernelIdeal.nD Cert.KernelIdeal.τ).loc Cert.KernelIdeal.main_arg10)) :
    (Cert.KernelIdeal.Gen.dats m 0 c).arrAt 4 Cert.KernelIdeal.cfg0.N = Cert.ReferenceIdeal.Near.out V0 := by
  obtain ⟨⟨a1, a2, a3⟩, a4, a7, a8, a10⟩ := Cert.Pre_finite_unbiased.fn_all _ _ _ _ _ _ _ _ _ _ _ (hm c)
  choose q hq using a1
  choose p hp using a2
  refine funext fun (x : Cert.KernelIdeal.S16384x32.Idx) => ?_
  rw [eq_ix2 x, ← row_split (x 0)]
  refine (Cert.KernelIdeal.Scene.arr_at m c _ _ _).trans ?_
  exact Cert.KernelIdeal.Scene.scene_eq (fun b i f => p (ix3 b i f)) (fun b i f => q (ix3 b i f)) _ V0
    (fun b i f => (congrFun e2 _).trans (hp _)) (fun b i f => (congrFun e1 _).trans (hq _))
    (fun i => (congrFun e4 _).trans (a4 _)) (fun i => (congrFun e7 _).trans (a7 _)) (fun i => (congrFun e8 _).trans (a8 _))
    (fun i => (congrFun e10 _).trans (a10 _)) _ _ _ _ e3.symm e5.symm e9.symm a3
    (Cert.KernelIdeal.Scene.coords_holds _ _ _ m c (fun _ _ _ => hp _) (fun _ _ _ => hq _)) _ _

/-- The kernel and the reference, from memories agreeing on arguments the precondition allows, both run, leave their
    arguments as they were and end at the same result. -/
theorem equal [Cert.Pre_finite_unbiased.Facts] :
    Cert.algebraic_KernelIdeal_ReferenceIdeal_pre_finite_unbiased (hKernelIdeal := Cert.KernelIdeal.Gen.facts)
      (hReferenceIdeal := Cert.ReferenceIdeal.Gen.facts) := by
  intro m g m' g' hm hagree
  refine ⟨fun c => (Cert.KernelIdeal.Gen.dats m 0 c).arrAt 4 Cert.KernelIdeal.cfg0.N, Cert.KernelIdeal.Value.run_blocks m g, ?_⟩
  refine (θ_run Cert.ReferenceIdeal.defs _ _).mono (fun r h c => ⟨(h c).1.trans ?_, (h c).2⟩) (Cert.ReferenceIdeal.Value.run (F := Ideal) m' g')
  obtain ⟨-, e1, e2, e3, e4, e5, -, e7, e8, e9, e10⟩ := hagree c
  exact (arr_eq m c (Idealize.ShloMosaic.StableHlo.launchContents m' c) hm e1 e2 e3 e4 e5 e7 e8 e9 e10).symm

end Cert.Proof

end
-- ==== Proof.lean ====
/- The certificate: every claim assembled from the modules that prove it. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Assumed
public import proofs.«01_k».proof.Proof.Equal
public import Idealize.ShloMosaic.Lib.Quiescent
public import Idealize.ShloMosaic.Adequacy
public import Idealize.ShloMosaic.Init

@[expose] public section

noncomputable section

namespace Cert.Proof

open Idealize.ShloMosaic Idealize.SL.Sem

/-- The reference runs, keeps its arguments, and declares no semaphore. -/
theorem reference_frame : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The large number that masks a distance stands for plus infinity. -/
theorem preserved : Cert.preserves_Kernel_KernelIdeal :=
  IdealRules.named_const.statement Cert.KernelIdeal.κ "big" .f32 0x7149F2CA#32 ⊤ rfl

/-- Every claim of the certificate. -/
theorem claim : Cert.Claim :=
  ⟨Cert.Kernel.Gen.facts, Cert.KernelIdeal.Gen.facts, Cert.ReferenceIdeal.Gen.facts, Cert.Pre_finite_unbiased.facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    preserved,
    letI := Cert.Pre_finite_unbiased.facts
    equal⟩

end Cert.Proof

end
